-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S4096x4096 : Shape := ⟨2, ![4096, 4096]⟩
abbrev S15 : Shape := ⟨1, ![15]⟩
abbrev S_ : Shape := ⟨0, ![]⟩
abbrev S256x128 : Shape := ⟨2, ![256, 128]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e5m2⟩
  | .hbm, ⟨1, _⟩ => ⟨S4096x128, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e5m2⟩
  | .local _ .vmem, ⟨1, _⟩ => ⟨S4096x128, .fp8e5m2⟩
  | .local _ .vmem, ⟨2, _⟩ => ⟨S4096x128, .f32⟩
  | .local _ .vmem, ⟨3, _⟩ => ⟨S4096x4096, .fp8e5m2⟩
  | .local _ .vmem, ⟨4, _⟩ => ⟨S4096x128, .bf16⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v24 : BitVec 32 := Scalar.muli v2 c256_i32
  let v25 : Index := Scalar.indexCast v24
  let c0_17 : Index := 0#32
  ![v25.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_22 : BitVec 32 := 256#32
  let v37 : BitVec 32 := Scalar.muli v2 c256_i32_22
  let v38 : Index := Scalar.indexCast v37
  let c0_23 : Index := 0#32
  ![v38.toNat, 0]
def k0_off3 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v40 : BitVec 32 := Scalar.subi v2 c0_i32_24
  let c16_i32_25 : BitVec 32 := 16#32
  let v41 : BitVec 32 := Scalar.addi v40 c16_i32_25
  let c16_i32_26 : BitVec 32 := 16#32
  let v42 : BitVec 32 := Scalar.remsi v41 c16_i32_26
  let c256_i32_32 : BitVec 32 := 256#32
  let v48 : BitVec 32 := Scalar.muli v42 c256_i32_32
  let c0_i32_37 : BitVec 32 := 0#32
  ![v48.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_35 : BitVec 32 := 1#32
  let v49 : BitVec 32 := Scalar.muli v7 c1_i32_35
  let v50 : BitVec 32 := Scalar.addi c0_i32_36 v49
  v50.toNat
def k0_off4 (d0 : Dev nD) (c0_i32_27 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : BitVec 32 := Scalar.subi v2 c0_i32_27
  let c1_i32_28 : BitVec 32 := 1#32
  let v44 : BitVec 32 := Scalar.subi v43 c1_i32_28
  let c16_i32_29 : BitVec 32 := 16#32
  let v45 : BitVec 32 := Scalar.addi v44 c16_i32_29
  let c16_i32_30 : BitVec 32 := 16#32
  let v46 : BitVec 32 := Scalar.remsi v45 c16_i32_30
  let c256_i32_50 : BitVec 32 := 256#32
  let v67 : BitVec 32 := Scalar.muli v46 c256_i32_50
  let v68 : Index := Scalar.indexCast v67
  let c0_51 : Index := 0#32
  ![v68.toNat, 0]
def k0_off5 (d0 : Dev nD) (c0_i32_27 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : BitVec 32 := Scalar.subi v2 c0_i32_27
  let c1_i32_28 : BitVec 32 := 1#32
  let v44 : BitVec 32 := Scalar.subi v43 c1_i32_28
  let c16_i32_29 : BitVec 32 := 16#32
  let v45 : BitVec 32 := Scalar.addi v44 c16_i32_29
  let c16_i32_30 : BitVec 32 := 16#32
  let v46 : BitVec 32 := Scalar.remsi v45 c16_i32_30
  let c256_i32_55 : BitVec 32 := 256#32
  let v75 : BitVec 32 := Scalar.muli v46 c256_i32_55
  let v76 : Index := Scalar.indexCast v75
  let c0_56 : Index := 0#32
  ![v76.toNat, 0]
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_68 : BitVec 32 := 1#32
  let v87 : BitVec 32 := Scalar.muli v7 c1_i32_68
  let v88 : BitVec 32 := Scalar.addi c0_i32_69 v87
  v88.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_101 : BitVec 32 := 1#32
  let v125 : BitVec 32 := Scalar.muli v7 c1_i32_101
  let v126 : BitVec 32 := Scalar.addi c0_i32_102 v125
  v126.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_133 : BitVec 32 := 1#32
  let v163 : BitVec 32 := Scalar.muli v7 c1_i32_133
  let v164 : BitVec 32 := Scalar.addi c0_i32_134 v163
  v164.toNat
def k0_dev7 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_165 : BitVec 32 := 1#32
  let v201 : BitVec 32 := Scalar.muli v7 c1_i32_165
  let v202 : BitVec 32 := Scalar.addi c0_i32_166 v201
  v202.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_197 : BitVec 32 := 1#32
  let v239 : BitVec 32 := Scalar.muli v7 c1_i32_197
  let v240 : BitVec 32 := Scalar.addi c0_i32_198 v239
  v240.toNat
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_229 : BitVec 32 := 1#32
  let v277 : BitVec 32 := Scalar.muli v7 c1_i32_229
  let v278 : BitVec 32 := Scalar.addi c0_i32_230 v277
  v278.toNat
def k0_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_261 : BitVec 32 := 1#32
  let v315 : BitVec 32 := Scalar.muli v7 c1_i32_261
  let v316 : BitVec 32 := Scalar.addi c0_i32_262 v315
  v316.toNat
def k0_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_293 : BitVec 32 := 1#32
  let v353 : BitVec 32 := Scalar.muli v7 c1_i32_293
  let v354 : BitVec 32 := Scalar.addi c0_i32_294 v353
  v354.toNat
def k0_dev12 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_325 : BitVec 32 := 1#32
  let v391 : BitVec 32 := Scalar.muli v7 c1_i32_325
  let v392 : BitVec 32 := Scalar.addi c0_i32_326 v391
  v392.toNat
def k0_dev13 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_357 : BitVec 32 := 1#32
  let v429 : BitVec 32 := Scalar.muli v7 c1_i32_357
  let v430 : BitVec 32 := Scalar.addi c0_i32_358 v429
  v430.toNat
def k0_dev14 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_389 : BitVec 32 := 1#32
  let v467 : BitVec 32 := Scalar.muli v7 c1_i32_389
  let v468 : BitVec 32 := Scalar.addi c0_i32_390 v467
  v468.toNat
def k0_dev15 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_421 : BitVec 32 := 1#32
  let v505 : BitVec 32 := Scalar.muli v7 c1_i32_421
  let v506 : BitVec 32 := Scalar.addi c0_i32_422 v505
  v506.toNat
def k0_dev16 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v543 : BitVec 32 := Scalar.muli v7 c1_i32_453
  let v544 : BitVec 32 := Scalar.addi c0_i32_454 v543
  v544.toNat
def k0_dev17 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_485 : BitVec 32 := 1#32
  let v581 : BitVec 32 := Scalar.muli v7 c1_i32_485
  let v582 : BitVec 32 := Scalar.addi c0_i32_486 v581
  v582.toNat
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
# The kernel's program, hop by hop

The body of the kernel is one long straight line: a handshake with both neighbours, the device's own block staged and
multiplied, and then fifteen hops of the ring, each the same seven steps at its own offsets and semaphores. Here the
hop is written once, with its offsets as parameters, and the body is shown to be the first stretch followed by the
fifteen hops in order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingMatmul

open Cert.KernelIdeal Cert.KernelIdeal.Gen
open Idealize.ShloMosaic
open Idealize.ShloMosaic.TcCoe
open Idealize.SL.Sem

variable {F : FTy → Type} [FloatOps F]

/-! ## The buffers and semaphores -/

/-- The staged row block of `x`, the staged column block of `w`, the two staged scales, the staged result. -/
abbrev xM : Memref sig .tc .vmem S256x4096 .fp8e5m2 := Memref.whole cc0_stg0_0
abbrev wM : Memref sig .tc .vmem S4096x128 .fp8e5m2 := Memref.whole cc0_stg1_0
abbrev aM : Memref sig .tc .smem S1 .f32 := Memref.whole cc0_stg2_0
abbrev bM : Memref sig .tc .smem S1 .f32 := Memref.whole cc0_stg3_0
abbrev oM : Memref sig .tc .vmem S4096x128 .f32 := Memref.whole cc0_stg4_0
/-- The gather buffer, sixteen row blocks of `x`, and the widened column block of `w`. -/
abbrev gM : Memref sig .tc .vmem S4096x4096 .fp8e5m2 := Memref.whole cc0_scratch0
abbrev hM : Memref sig .tc .vmem S4096x128 .bf16 := Memref.whole cc0_scratch1

/-- The runtime's barrier semaphore of collective id 0. -/
abbrev barS : Sem sig := (SemArray.scalar (sig.barrier 0 rfl) : Sems sig S_).sem

theorem hop_inb (h : Fin 15) : ∀ a, (![h.val] : Fin 1 → Nat) a + S1.size a ≤ S15.size a := by
  revert h; decide

/-- The semaphore a hop's outgoing transfer completes on at the sender; and at the receiver. -/
abbrev sendS (h : Fin 15) : DmaSem sig :=
  ((cc0_scratch2.slice (Rect.unit (s := S15) ![h.val] S1.size (hop_inb h))).squeeze S_ squeezes_S1_S_).sem
abbrev recvS (h : Fin 15) : DmaSem sig :=
  ((cc0_scratch3.slice (Rect.unit (s := S15) ![h.val] S1.size (hop_inb h))).squeeze S_ squeezes_S1_S_).sem

/-! ## Row blocks -/

/-- Rows `o 0 … o 0 + 255` of the gather buffer, of the result. -/
abbrev gRect (o : Fin 2 → ℕ) (ho : ∀ a, o a + S256x4096.size a ≤ S4096x4096.size a) : Rect S4096x4096 :=
  Rect.unit (s := S4096x4096) o S256x4096.size ho
abbrev oRect (o : Fin 2 → ℕ) (ho : ∀ a, o a + S256x128.size a ≤ S4096x128.size a) : Rect S4096x128 :=
  Rect.unit (s := S4096x128) o S256x128.size ho
abbrev gRows (o : Fin 2 → ℕ) (ho : ∀ a, o a + S256x4096.size a ≤ S4096x4096.size a) :
    Memref sig .tc .vmem S256x4096 .fp8e5m2 := gM.slice (gRect o ho) (fun _ => rfl)

abbrev P₀ : Type → Type 1 := Prog (TpuEff nD τ sig (Elt F) Λ₀ .tc)

/-- Multiply the row block at `og` of the gather buffer by the widened `w` and store the scaled product at rows `oo`
    of the result; then go on with `k`. -/
def rows (s : F .f32) (og : Fin 2 → ℕ) (hog : ∀ a, og a + S256x4096.size a ≤ S4096x4096.size a)
    (oo : Fin 2 → ℕ) (hoo : ∀ a, oo a + S256x128.size a ≤ S4096x128.size a) (k : P₀ (F := F) PUnit) : P₀ (F := F) PUnit :=
  .op (.load gM (gRect og hog).toLoadRect (View.loadsAt_vmem h_S256x4096)) fun v =>
  .op (.load hM (Rect.unit (s := S4096x128) ![0, 0] S4096x128.size inb_S4096x128_S4096x128_0_0).toLoadRect (View.loadsAt_vmem h_S4096x128)) fun w =>
  .op (.load oM (oRect oo hoo).toLoadRect (View.loadsAt_vmem h_S256x128)) fun _ =>
  .op (.store oM (oRect oo hoo) (k0_pay4 s v w) Finset.univ (View.stores_vmem_bits_univ h_S256x128 rfl) (.inl rfl)) fun _ => k

/-- One hop: send the row block at `ot` to device `n`'s rows `ot`, wait until it has left and until this device's own
    incoming block has landed, then multiply the block at `og`. -/
def hop (h : Fin 15) (n : Dev nD) (s : F .f32)
    (ot : Fin 2 → ℕ) (hot : ∀ a, ot a + S256x4096.size a ≤ S4096x4096.size a) (hwt : (gRect ot hot).WholeWords (EltTy.packing .fp8e5m2))
    (og : Fin 2 → ℕ) (hog : ∀ a, og a + S256x4096.size a ≤ S4096x4096.size a)
    (oo : Fin 2 → ℕ) (hoo : ∀ a, oo a + S256x128.size a ≤ S4096x128.size a) (k : P₀ (F := F) PUnit) : P₀ (F := F) PUnit :=
  .op (.enqueueDma (gRows ot hot) (.remote (Dev.tc n) (gRows ot hot) (.dma (sendS h))) (.dma (recvS h))
    ((Memref.isWhole_whole _).wordExact_slice rfl _ hwt) ((Memref.isWhole_whole _).wordExact_slice rfl _ hwt) ⟨⟨rfl, Or.inl rfl⟩, trivial⟩) fun _ =>
  .op (.waitDma2 (sendS h) (gRows ot hot) (gRows ot hot)
    ((Memref.isWhole_whole _).wordExact_slice rfl _ hwt) ((Memref.isWhole_whole _).wordExact_slice rfl _ hwt)) fun _ =>
  .op (.waitDma2 (recvS h) (gRows ot hot) (gRows ot hot)
    ((Memref.isWhole_whole _).wordExact_slice rfl _ hwt) ((Memref.isWhole_whole _).wordExact_slice rfl _ hwt)) fun _ =>
  rows s og hog oo hoo k

/-- The device each hop addresses, as the program computes it. -/
def dest (c : Dev nD) : Fin 15 → Dev nD
  | 0 => ⟨k0_dev3 c, k0_dev3_lt c⟩ | 1 => ⟨k0_dev4 c, k0_dev4_lt c⟩ | 2 => ⟨k0_dev5 c, k0_dev5_lt c⟩
  | 3 => ⟨k0_dev6 c, k0_dev6_lt c⟩ | 4 => ⟨k0_dev7 c, k0_dev7_lt c⟩ | 5 => ⟨k0_dev8 c, k0_dev8_lt c⟩
  | 6 => ⟨k0_dev9 c, k0_dev9_lt c⟩ | 7 => ⟨k0_dev10 c, k0_dev10_lt c⟩ | 8 => ⟨k0_dev11 c, k0_dev11_lt c⟩
  | 9 => ⟨k0_dev12 c, k0_dev12_lt c⟩ | 10 => ⟨k0_dev13 c, k0_dev13_lt c⟩ | 11 => ⟨k0_dev14 c, k0_dev14_lt c⟩
  | 12 => ⟨k0_dev15 c, k0_dev15_lt c⟩ | 13 => ⟨k0_dev16 c, k0_dev16_lt c⟩ | 14 => ⟨k0_dev17 c, k0_dev17_lt c⟩

/-- Hop `h` of device `c`, at the offsets the program computes. -/
def hopAt (c : Dev nD) (s : F .f32) (h : Fin 15) (k : P₀ (F := F) PUnit) : P₀ (F := F) PUnit :=
  hop h (dest c h) s (k0_off3 c (BitVec.ofNat 32 h.val)) (k0_off3_inb c h) (k0_off3_wordsfp8e5m2 c h)
    (k0_off4 c (BitVec.ofNat 32 h.val)) (k0_off4_inb c h) (k0_off5 c (BitVec.ofNat 32 h.val)) (k0_off5_inb c h) k

/-- The last `r` hops. -/
def hopsLeft (c : Dev nD) (s : F .f32) : ℕ → P₀ (F := F) PUnit
  | 0 => .ret ⟨⟩
  | r + 1 => hopAt c s ⟨14 - r, by omega⟩ (hopsLeft c s r)

/-- The first stretch, from the device's own id on: the handshake, the scales, the widened `w`, the own block staged
    and its rows multiplied; then `k` with the product of the scales. -/
def opening (c : Dev nD) (k : F .f32 → P₀ (F := F) PUnit) : P₀ (F := F) PUnit :=
  .op (.semSignal (Dev.tc (⟨k0_dev1 c, k0_dev1_lt c⟩ : Dev nD)) barS (1#32).toInt) fun _ =>
  .op (.semSignal (Dev.tc (⟨k0_dev2 c, k0_dev2_lt c⟩ : Dev nD)) barS (1#32).toInt) fun _ =>
  .op (.semWait barS (2#32).toInt) fun _ =>
  (smemLoad aM (Rect.unit (s := S1) ![0] S1.size inb_S1_S1_0) numel1_S1 rfl).bind fun a =>
  (smemLoad bM (Rect.unit (s := S1) ![0] S1.size inb_S1_S1_0) numel1_S1 rfl).bind fun b =>
  .op (.load wM (Rect.unit (s := S4096x128) ![0, 0] S4096x128.size inb_S4096x128_S4096x128_0_0).toLoadRect (View.loadsAt_vmem h_S4096x128)) fun w =>
  .op (.load hM (Rect.unit (s := S4096x128) ![0, 0] S4096x128.size inb_S4096x128_S4096x128_0_0).toLoadRect (View.loadsAt_vmem h_S4096x128)) fun _ =>
  .op (.store hM (Rect.unit (s := S4096x128) ![0, 0] S4096x128.size inb_S4096x128_S4096x128_0_0) (k0_pay2 w) Finset.univ
    (View.stores_vmem h_S4096x128 ((Memref.isWhole_whole _).storeExact_slice rfl _ packedbf16_S4096x128_S4096x128_0_0) (fun _ => rfl)) (.inl rfl)) fun _ =>
  .op (.load xM (Rect.unit (s := S256x4096) ![0, 0] S256x4096.size inb_S256x4096_S256x4096_0_0).toLoadRect (View.loadsAt_vmem h_S256x4096)) fun x =>
  .op (.load gM (gRect (k0_off1 c) (k0_off1_inb c)).toLoadRect (View.loadsAt_vmem h_S256x4096)) fun _ =>
  .op (.store gM (gRect (k0_off1 c) (k0_off1_inb c)) (k0_pay3 x) Finset.univ
    (View.stores_vmem h_S256x4096 ((Memref.isWhole_whole _).storeExact_slice rfl _ (k0_off1_packedfp8e5m2 c)) (fun _ => rfl)) (.inl rfl)) fun _ =>
  rows (k0_pay1 a b) (k0_off1 c) (k0_off1_inb c) (k0_off2 c) (k0_off2_inb c) (k (k0_pay1 a b))

set_option maxRecDepth 65536 in
/-- The body of the kernel is the opening followed by the fifteen hops in order. -/
theorem body_shape : cc0_body (F := F) xM (Memref.isWhole_whole _) wM (Memref.isWhole_whole _) aM (Memref.isWhole_whole _)
      bM (Memref.isWhole_whole _) oM (Memref.isWhole_whole _) gM (Memref.isWhole_whole _) hM (Memref.isWhole_whole _) cc0_scratch2 cc0_scratch3
    = .op .deviceId fun c => opening c fun v => hopsLeft c v 15 := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel,
    semSignalWord, semWaitWord, smemLoad, smemLoadElt, Prog.lift, Prog.bind_op, Prog.bind_ret, Prog.pure_eq_ret]
  simp only [opening, rows, hopsLeft, hopAt, hop, smemLoad, smemLoadElt, Prog.bind_op, Prog.bind_ret]
  rfl

end Cert.RingMatmul

end
-- ==== Proof.Blocks.lean ====
/-
# Devices, row blocks and contents

Sixteen devices in a ring, sixteen row blocks of the gather buffer and of the result, and what the buffers hold: the
gathered `x`, and the product each device computes.
-/
module

public import proofs.«01_k».proof.Proof.Program
public import Idealize.ShloMosaic.Lib.Pointwise.Index
public import Idealize.ShloMosaic.Lib.Pipeline.Value

@[expose] public section

noncomputable section

namespace Cert.RingMatmul

open Cert.KernelIdeal Cert.KernelIdeal.Gen
open Idealize.ShloMosaic
open Idealize.ShloMosaic.TcCoe
open Idealize.SL.Sem

variable {F : FTy → Type} [FloatOps F]

/-! ## The ring -/

set_option backward.proofsInPublic true in
/-- The neighbour a device sends to, and the one it receives from. -/
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩
set_option backward.proofsInPublic true in
/-- The device `j` steps back along the ring. -/
def back (c : Dev nD) (j : ℕ) : Dev nD := ⟨(c.val + (16 - j)) % 16, Nat.mod_lt _ (by decide)⟩

theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

theorem back_zero (c : Dev nD) : back c 0 = c := by revert c; decide
/-- `j + 1` steps back from a device's successor are `j` steps back from it. -/
theorem back_nxt (c : Dev nD) (h : Fin 15) : back (nxt c) (h.val + 1) = back c h.val := by revert c h; decide
theorem back_prv (c : Dev nD) (h : Fin 15) : back (prv c) h.val = back c (h.val + 1) := by revert c h; decide

/-- The devices counted back from `c`. -/
theorem back_bijective (c : Dev nD) : Function.Bijective fun j : Fin 16 => back c j.val := by revert c; decide
def around (c : Dev nD) : Fin 16 ≃ Dev nD := Equiv.ofBijective _ (back_bijective c)

/-- The devices the program computes: first signal backward, second forward, every hop forward. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dest_eq (c : Dev nD) (h : Fin 15) : dest c h = nxt c := by revert c h; decide +kernel

/-! ## Row blocks -/

/-- The offset of device `k`'s row block. -/
abbrev rowAt (k : Dev nD) : Fin 2 → ℕ := ![256 * k.val, 0]
theorem rowAt_gath (k : Dev nD) : ∀ a, rowAt k a + S256x4096.size a ≤ S4096x4096.size a := by revert k; decide
theorem rowAt_out (k : Dev nD) : ∀ a, rowAt k a + S256x128.size a ≤ S4096x128.size a := by revert k; decide

theorem off1_eq (c : Dev nD) : k0_off1 c = rowAt c := k0_off1_eq c
theorem off2_eq (c : Dev nD) : k0_off2 c = rowAt c := k0_off2_eq c
theorem off3_eq (c : Dev nD) (h : Fin 15) : k0_off3 c (BitVec.ofNat 32 h.val) = rowAt (back c h.val) :=
  (k0_off3_eq c h).trans (by revert c h; decide)
theorem off4_eq (c : Dev nD) (h : Fin 15) : k0_off4 c (BitVec.ofNat 32 h.val) = rowAt (back c (h.val + 1)) :=
  (k0_off4_eq c h).trans (by revert c h; decide)
theorem off5_eq (c : Dev nD) (h : Fin 15) : k0_off5 c (BitVec.ofNat 32 h.val) = rowAt (back c (h.val + 1)) :=
  (k0_off5_eq c h).trans (by revert c h; decide)

/-- Row block `k` of the gather buffer; its elements; the elements of row block `k` of the result. -/
abbrev slotM (k : Dev nD) : Memref sig .tc .vmem S256x4096 .fp8e5m2 := gRows (rowAt k) (rowAt_gath k)
abbrev slotSet (k : Dev nD) : Finset (cc0_scratch0 : Ref sig .tc).ty.Idx := (slotM k).view.set
abbrev outSet (k : Dev nD) : Finset (cc0_stg4_0 : Ref sig .tc).ty.Idx := (oM.access (oRect (rowAt k) (rowAt_out k))).set

/-- The row block an element lies in, and its place there. -/
def blkG (i : S4096x4096.Idx) : Dev nD := ⟨(i 0).val / 256, by have : (i 0).val < 4096 := (i 0).isLt; show _ < 16; omega⟩
def inG (i : S4096x4096.Idx) : S256x4096.Idx := ix2 ⟨(i 0).val % 256, Nat.mod_lt _ (by decide)⟩ (i 1)
def blkO (i : S4096x128.Idx) : Dev nD := ⟨(i 0).val / 256, by have : (i 0).val < 4096 := (i 0).isLt; show _ < 16; omega⟩
def inO (i : S4096x128.Idx) : S256x128.Idx := ix2 ⟨(i 0).val % 256, Nat.mod_lt _ (by decide)⟩ (i 1)

theorem mem_slot {k : Dev nD} {i : S4096x4096.Idx} : i ∈ slotSet k ↔ blkG i = k := by
  rw [show slotSet k = (gRect (rowAt k) (rowAt_gath k)).set from View.set_slice_whole _ _, Rect.mem_set_unit, Fin.forall_fin_two, Fin.ext_iff]
  have h0 : (i 0).val < 4096 := (i 0).isLt
  have h1 : (i 1).val < 4096 := (i 1).isLt
  show (256 * k.val ≤ (i 0).val ∧ (i 0).val < 256 * k.val + 256) ∧ (0 ≤ (i 1).val ∧ (i 1).val < 0 + 4096) ↔ (i 0).val / 256 = k.val
  omega

theorem mem_out {k : Dev nD} {i : S4096x128.Idx} : i ∈ outSet k ↔ blkO i = k := by
  rw [show outSet k = (oRect (rowAt k) (rowAt_out k)).set from View.set_slice_whole _ _, Rect.mem_set_unit, Fin.forall_fin_two, Fin.ext_iff]
  have h0 : (i 0).val < 4096 := (i 0).isLt
  have h1 : (i 1).val < 128 := (i 1).isLt
  show (256 * k.val ≤ (i 0).val ∧ (i 0).val < 256 * k.val + 256) ∧ (0 ≤ (i 1).val ∧ (i 1).val < 0 + 128) ↔ (i 0).val / 256 = k.val
  omega

theorem blkG_emb (k : Dev nD) (y : S256x4096.Idx) : blkG ((gRect (rowAt k) (rowAt_gath k)).emb y) = k := by
  have h0 : (y 0).val < 256 := (y 0).isLt
  refine Fin.ext ?_
  show (256 * k.val + 1 * (y 0).val) / 256 = k.val
  omega
theorem inG_emb (k : Dev nD) (y : S256x4096.Idx) : inG ((gRect (rowAt k) (rowAt_gath k)).emb y) = y := by
  have h0 : (y 0).val < 256 := (y 0).isLt
  funext a
  refine Fin.ext ?_
  fin_cases a
  · show (256 * k.val + 1 * (y 0).val) % 256 = (y 0).val
    omega
  · show 0 + 1 * (y 1).val = (y 1).val
    omega
theorem blkO_emb (k : Dev nD) (y : S256x128.Idx) : blkO ((oRect (rowAt k) (rowAt_out k)).emb y) = k := by
  have h0 : (y 0).val < 256 := (y 0).isLt
  refine Fin.ext ?_
  show (256 * k.val + 1 * (y 0).val) / 256 = k.val
  omega
theorem inO_emb (k : Dev nD) (y : S256x128.Idx) : inO ((oRect (rowAt k) (rowAt_out k)).emb y) = y := by
  have h0 : (y 0).val < 256 := (y 0).isLt
  funext a
  refine Fin.ext ?_
  fin_cases a
  · show (256 * k.val + 1 * (y 0).val) % 256 = (y 0).val
    omega
  · show 0 + 1 * (y 1).val = (y 1).val
    omega

theorem slots_disjoint (k l : Dev nD) (h : k ≠ l) : Disjoint (slotSet k) (slotSet l) :=
  Finset.disjoint_left.mpr fun i hk hl => h ((mem_slot.mp hk).symm.trans (mem_slot.mp hl))
theorem slots_cover : Finset.univ.biUnion slotSet = Finset.univ :=
  Finset.eq_univ_iff_forall.mpr fun i => Finset.mem_biUnion.mpr ⟨blkG i, Finset.mem_univ _, mem_slot.mpr rfl⟩

/-! ## Contents -/

variable (m : (ℓ : Loc nD τ sig) → Buf (Elt F) ℓ) (ρ : Dev nD → PrngReg)

/-- The memory at launch: any contents, counters at zero, any generator registers. -/
def s₀ : MemSt nD τ sig (Elt F) := ⟨m, fun _ => 0, ρ⟩

/-- What the pipeline stages on device `c`: its rows of `x`, its columns of `w`, the two scales. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def astg (c : Dev nD) : (cc0_stg2_0 : Ref sig .tc).ty.Contents (Elt F) :=
  (win0_2.blk (0 : Fin 1)).view.read (Elt F) ((s₀ m ρ).mem ((c : Thread nD τ).loc main_arg2))
def bstg (c : Dev nD) : (cc0_stg3_0 : Ref sig .tc).ty.Contents (Elt F) :=
  (win0_3.blk (0 : Fin 1)).view.read (Elt F) ((s₀ m ρ).mem ((c : Thread nD τ).loc main_arg3))

/-- The gather buffer when full: row block `k` is device `k`'s rows of `x`. The same on every device. -/
def gath : (cc0_scratch0 : Ref sig .tc).ty.Contents (Elt F) := fun i => xstg m ρ (blkG i) (inG i)

/-- The product of the two scales; the widened columns of `w`; row block `k` of the product. -/
def scl (c : Dev nD) : F .f32 := k0_pay1 (astg m ρ c (ix1 0)) (bstg m ρ c (ix1 0))
def wide (c : Dev nD) : (cc0_scratch1 : Ref sig .tc).ty.Contents (Elt F) := k0_pay2 (wstg m ρ c)
def prod (c k : Dev nD) : Vec F S256x128 .f32 := k0_pay4 (scl m ρ c) (xstg m ρ k) (wide m ρ c)
/-- The result of device `c`. -/
def outAt (c : Dev nD) : (cc0_stg4_0 : Ref sig .tc).ty.Contents (Elt F) := fun i => prod m ρ c (blkO i) (inO i)

/-- A row block of the full gather buffer is that device's rows of `x`; -/
theorem read_gath (k : Dev nD) : (slotM k).view.read (Elt F) (gath m ρ) = xstg m ρ k := by
  funext y
  show xstg m ρ (blkG ((gRect (rowAt k) (rowAt_gath k)).emb y)) (inG ((gRect (rowAt k) (rowAt_gath k)).emb y)) = xstg m ρ k y
  rw [blkG_emb, inG_emb]

/-- and writing those rows there makes the buffer agree with the full one on them. -/
theorem write_gath (k : Dev nD) (f : (cc0_scratch0 : Ref sig .tc).ty.Contents (Elt F)) :
    ∀ i ∈ slotSet k, (slotM k).view.write (Elt F) f (xstg m ρ k) Finset.univ i = gath m ρ i := by
  intro i hi
  obtain ⟨y, -, rfl⟩ := Finset.mem_map.mp hi
  rw [View.write_emb_of_mem _ _ (Finset.mem_univ _), ← read_gath m ρ k]
  rfl

/-- Writing row block `k` of the product: the new block there, the old contents elsewhere. -/
theorem write_out_at (c k : Dev nD) (f : (cc0_stg4_0 : Ref sig .tc).ty.Contents (Elt F)) (i : S4096x128.Idx) :
    (oM.access (oRect (rowAt k) (rowAt_out k))).write (Elt F) f (prod m ρ c k) Finset.univ i = if blkO i = k then outAt m ρ c i else f i := by
  split
  case isTrue h =>
    have hi : i ∈ outSet k := mem_out.mpr h
    obtain ⟨y, -, rfl⟩ := Finset.mem_map.mp hi
    rw [View.write_emb_of_mem _ _ (Finset.mem_univ _)]
    show prod m ρ c k y = prod m ρ c (blkO ((oRect (rowAt k) (rowAt_out k)).emb y)) (inO ((oRect (rowAt k) (rowAt_out k)).emb y))
    rw [blkO_emb, inO_emb]
  case isFalse h =>
    exact View.write_of_not_mem _ _ _ fun hm => h (mem_out.mp hm)

/-- Staging the device's own rows is a copy. -/
theorem pay3_eq (x : Vec F S256x4096 .fp8e5m2) : k0_pay3 x = x := by
  show shapeCast S256x4096 (shapeCast S256x4096 x _) _ = x
  rw [shapeCast_self, shapeCast_self]

end Cert.RingMatmul

end
-- ==== Proof.Schedule.lean ====
/-
# The semaphores of the ring and what passes over them

Each device has one barrier cell and, for every hop, a send and a receive cell. A barrier cell is paid one unit by each
neighbour: the predecessor's carries nothing, the successor's the fifteen row blocks of the successor's gather buffer that
the transfers are to overwrite. A send or receive cell is paid once, by the transfer of its hop, and hands over the row
block it moved: at the sender its own again, at the receiver the one that landed.
-/
module

public import proofs.«01_k».proof.Proof.Blocks
public import Idealize.ShloMosaic.Lib.SparseCore.ProtocolKit

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo sum_finFrom_succ sum_finFrom_self sum_tallyAt_apply_pos)

variable {F : FTy → Type} [FloatOps F]

/-! ## Resources: the pipeline's rounds beside the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: its barrier cell, its fifteen send cells, its fifteen receive cells. -/
abbrev Cell : Type := Unit ⊕ (Fin 15 ⊕ Fin 15)

/-- The semaphores of the transfers, and all the ring's semaphores. -/
abbrev xferSem : Fin 15 ⊕ Fin 15 → SemLoc sig
  | .inl h => .dma (sendS h)
  | .inr h => .dma (recvS h)
abbrev cellSem : Cell → SemLoc sig
  | .inl _ => .reg barS
  | .inr k => xferSem k
abbrev cellAt (ck : Dev nD × Cell) : GSem nD τ sig := ((ck.1 : Thread nD τ), cellSem ck.2)

abbrev barCell (c : Dev nD) : GSem nD τ sig := ((c : Thread nD τ), .reg barS)
abbrev sendCell (c : Dev nD) (h : Fin 15) : GSem nD τ sig := ((c : Thread nD τ), .dma (sendS h))
abbrev recvCell (c : Dev nD) (h : Fin 15) : GSem nD τ sig := ((c : Thread nD τ), .dma (recvS h))

/-- Which of a device's cells a semaphore is, if any. -/
def roleOf : SemLoc sig → Option Cell
  | .reg s => if s = barS then some (.inl ()) else none
  | .dma q =>
    if h : 5 ≤ q.val ∧ q.val < 20 then some (.inr (.inl ⟨q.val - 5, by omega⟩))
    else if h : 20 ≤ q.val ∧ q.val < 35 then some (.inr (.inr ⟨q.val - 20, by omega⟩)) else none

theorem role_cell (k : Cell) : roleOf (cellSem k) = some k := by
  rcases k with u | h | h
  · rfl
  · revert h; decide
  · revert h; decide
theorem cellSem_injective : Function.Injective cellSem := fun a b h =>
  Option.some.inj ((role_cell a).symm.trans ((congrArg roleOf h).trans (role_cell b)))

/-- The bytes of a row block, as the transfers count them. -/
abbrev N : ℕ := (slotM 0).view.dmaCredit
theorem N_pos : 0 < N := View.dmaCredit_pos _ (by decide)

/-! ## What the cells hand over -/

variable (m : (ℓ : Loc nD τ sig) → Buf (Elt F) ℓ) (ρ : Dev nD → PrngReg)

/-- Row block `k` of device `c`'s gather buffer, holding `f` there. -/
def slot (c k : Dev nD) (f : (cc0_scratch0 : Ref sig .tc).ty.Contents (Elt F)) : sProp 𝕄 :=
  (slotM k).view.loc (c : Thread nD τ) ↦[slotSet k]{fullShare} f

omit [FloatOps F] in
instance slot_storable (c k : Dev nD) (f) : BI.Storable (upEmb : UEmb _ 𝕄) (slot (F := F) c k f) := by unfold slot; infer_instance

/-- Row block `k` of device `c`, full: device `k`'s rows of `x`. -/
def full (c k : Dev nD) : sProp 𝕄 := slot c k (gath m ρ)
/-- Row block `k` of device `c`, holding anything. -/
def room (c k : Dev nD) : sProp 𝕄 := iprop(∃ f, slot (F := F) c k f)

omit [FloatOps F] in
instance full_storable (c k : Dev nD) : BI.Storable (upEmb : UEmb _ 𝕄) (full (F := F) m ρ c k) := by unfold full; infer_instance
omit [FloatOps F] in
instance room_storable (c k : Dev nD) : BI.Storable (upEmb : UEmb _ 𝕄) (room (F := F) c k) := by unfold room; infer_instance

/-- What device `c`'s successor hands it at the barrier: the row blocks `c`'s fifteen transfers overwrite. -/
def rooms (c : Dev nD) : sProp 𝕄 := bigSep Finset.univ fun h : Fin 15 => room (F := F) (nxt c) (back c h.val)

omit [FloatOps F] in
instance rooms_storable (c : Dev nD) : BI.Storable (upEmb : UEmb _ 𝕄) (rooms (F := F) c) := by unfold rooms; infer_instance

/-- What a cell's duty hands its owner `c`. -/
def handed (c : Dev nD) : Cell → Bool → sProp 𝕄
  | .inl _, d => if d then rooms c else iprop(emp)
  | .inr (.inl h), _ => full m ρ c (back c h.val)
  | .inr (.inr h), _ => full m ρ c (back c (h.val + 1))

omit [FloatOps F] in
instance handed_storable (c : Dev nD) (k : Cell) (d : Bool) : BI.Storable (upEmb : UEmb _ 𝕄) (handed (F := F) m ρ c k d) := by
  rcases k with u | h | h
  · cases d
    · show BI.Storable upEmb iprop(emp); infer_instance
    · exact rooms_storable c
  · exact full_storable m ρ c _
  · exact full_storable m ρ c _

omit [FloatOps F] in
theorem handed_send (c : Dev nD) (h : Fin 15) (d : Bool) : handed (F := F) m ρ c (.inr (.inl h)) d = full m ρ c (back c h.val) := rfl
omit [FloatOps F] in
theorem handed_recv (c : Dev nD) (h : Fin 15) (d : Bool) : handed (F := F) m ρ c (.inr (.inr h)) d = full m ρ c (back c (h.val + 1)) := rfl

/-- The duties of a cell, and the units of each. -/
def dutiesOf : Cell → Finset Bool
  | .inl _ => Finset.univ
  | .inr _ => {false}
def unitsOf : Cell → ℕ
  | .inl _ => 1
  | .inr _ => N

/-- The schedule: every cell has one round. -/
def ringRd : Rounds.Schedule (GSem nD τ sig) Bool 𝕄 where
  duties g r := if r = 0 ∧ g.1.2 = .tc then (roleOf g.2).elim ∅ dutiesOf else ∅
  unitless _ := False
  amount g _ _ := (roleOf g.2).elim 1 unitsOf
  payload g _ d := (roleOf g.2).elim iprop(emp) fun k => handed m ρ g.1.1 k d
  amount_pos g _ _ _ := by
    rcases roleOf g.2 with _ | u | k
    · exact Nat.one_pos
    · exact Nat.one_pos
    · exact N_pos

instance ringRd_payload_storable (g : GSem nD τ sig) (r : ℕ) (d : Bool) :
    BI.Storable (upEmb : UEmb _ 𝕄) ((ringRd (F := F) m ρ).payload g r d) := by
  show BI.Storable upEmb ((roleOf g.2).elim iprop(emp) fun k => handed m ρ g.1.1 k d)
  rcases roleOf g.2 with _ | k
  · show BI.Storable upEmb iprop(emp); infer_instance
  · exact handed_storable m ρ g.1.1 k d

section Facts
variable (c : Dev nD) (k : Cell) (h : Fin 15)

omit [FloatOps F] in
theorem duties_cell : (ringRd (F := F) m ρ).duties (cellAt (c, k)) 0 = dutiesOf k := by
  show (if (0 : ℕ) = 0 ∧ (cellAt (c, k)).1.2 = .tc then (roleOf (cellSem k)).elim ∅ dutiesOf else ∅) = _
  rw [if_pos ⟨rfl, rfl⟩, role_cell]; rfl
omit [FloatOps F] in
theorem duties_later (g : GSem nD τ sig) : ∀ r, 1 ≤ r → (ringRd (F := F) m ρ).duties g r = ∅ :=
  fun r hr => if_neg fun h => by omega
omit [FloatOps F] in
theorem amount_cell (d : Bool) : (ringRd (F := F) m ρ).amount (cellAt (c, k)) 0 d = unitsOf k := by
  show (roleOf (cellSem k)).elim 1 unitsOf = _
  rw [role_cell]; rfl
omit [FloatOps F] in
theorem payload_cell (d : Bool) : (ringRd (F := F) m ρ).payload (cellAt (c, k)) 0 d = handed m ρ c k d := by
  show (roleOf (cellSem k)).elim iprop(emp) (fun k => handed m ρ c k d) = _
  rw [role_cell]; rfl

omit [FloatOps F] in
theorem expect_bar : (ringRd (F := F) m ρ).expect (barCell c) 0 = 2 := by
  unfold Schedule.expect Schedule.amountOf
  rw [show barCell c = cellAt (c, .inl ()) from rfl, duties_cell, Finset.sum_congr rfl fun d _ => amount_cell m ρ c (.inl ()) d]
  rfl
omit [FloatOps F] in
theorem expect_xfer (k : Fin 15 ⊕ Fin 15) : (ringRd (F := F) m ρ).expect (cellAt (c, .inr k)) 0 = N := by
  unfold Schedule.expect Schedule.amountOf
  rw [duties_cell, Finset.sum_congr rfl fun d _ => amount_cell m ρ c (.inr k) d]
  exact Finset.sum_singleton _ _

omit [FloatOps F] in
/-- What waiting out a cell's round hands over. -/
theorem rest_bar : bigSep ((ringRd (F := F) m ρ).duties (barCell c) 0 \ ∅) (fun d => (ringRd (F := F) m ρ).payload (barCell c) 0 d)
    = iprop(emp ∗ rooms c) := by
  rw [show barCell c = cellAt (c, .inl ()) from rfl, Finset.sdiff_empty, duties_cell, show dutiesOf (.inl ()) = Finset.univ from rfl,
    bigSep_univ_eq_bigSepL [false, true] (by decide) (by decide), bigSepL_cons_cons, bigSepL_singleton, payload_cell, payload_cell]
  rfl
omit [FloatOps F] in
theorem rest_xfer (k : Fin 15 ⊕ Fin 15) :
    bigSep ((ringRd (F := F) m ρ).duties (cellAt (c, .inr k)) 0 \ ∅) (fun d => (ringRd (F := F) m ρ).payload (cellAt (c, .inr k)) 0 d)
    = handed m ρ c (.inr k) false := by
  rw [Finset.sdiff_empty, duties_cell, show dutiesOf (.inr k) = {false} from rfl, bigSep_singleton, payload_cell]

end Facts

/-! ## What a device owes, and in which order the cells may be waited on -/

/-- The receive credits of the hops from `j` on, owed to the successor; with the successor's barrier unit; and with the
    predecessor's. -/
def owedHops (c : Dev nD) (j : ℕ) : CellTallies nD τ sig Unit := ∑ h ∈ finFrom 15 j, tallyAt (recvCell (nxt c) h) () N
def O₁ (c : Dev nD) : CellTallies nD τ sig Unit := owedHops c 0 + tallyAt (barCell (nxt c)) () 1
def O₀ (c : Dev nD) : CellTallies nD τ sig Unit := O₁ c + tallyAt (barCell (prv c)) () 1

theorem owedHops_succ (c : Dev nD) (h : Fin 15) : owedHops c h.val = owedHops c (h.val + 1) + tallyAt (recvCell (nxt c) h) () N :=
  sum_finFrom_succ h.isLt _
theorem owedHops_end (c : Dev nD) : owedHops c 15 = 0 := sum_finFrom_self _

/-- The owed indices are on the TensorCores' cells. Levels: barrier cells 1, the receive cells of hop `h` at `h + 2`, all
    else 0. -/
def L (g : GSem nD τ sig) : Finset Unit := if g.1.2 = .tc then {()} else ∅
def levOf : Cell → ℕ
  | .inl _ => 1
  | .inr (.inl _) => 0
  | .inr (.inr h) => h.val + 2
def lv (g : GSem nD τ sig) (_ : Unit) : ℕ := (roleOf g.2).elim 0 levOf

theorem L_of_ne (g : GSem nD τ sig) (h : g.1.2 ≠ .tc) : L g = ∅ := if_neg h
theorem lv_cell (c : Dev nD) (k : Cell) : lv (cellAt (c, k)) () = levOf k := by
  show (roleOf (cellSem k)).elim 0 levOf = _
  rw [role_cell]; rfl

theorem owedHops_pos {c : Dev nD} {j : ℕ} {g : GSem nD τ sig} {u : Unit} (hp : 0 < owedHops c j g u) :
    ∃ h : Fin 15, j ≤ h.val ∧ g = recvCell (nxt c) h := by
  obtain ⟨h, hm, hg, -⟩ := sum_tallyAt_apply_pos hp
  exact ⟨h, mem_finFrom.mp hm, hg⟩

theorem O₀_apply (c : Dev nD) (g : GSem nD τ sig) (u : Unit) :
    O₀ c g u = owedHops c 0 g u + (if g = barCell (nxt c) ∧ u = () then 1 else 0) + (if g = barCell (prv c) ∧ u = () then 1 else 0) := by
  unfold O₀ O₁
  rw [Pi.add_apply, Finsupp.add_apply, Pi.add_apply, Finsupp.add_apply, tallyAt_apply, tallyAt_apply]

theorem O₀_pos {c : Dev nD} {g : GSem nD τ sig} {u : Unit} (hp : 0 < O₀ c g u) :
    ∃ d k, g = cellAt (d, k) ∧ 0 < levOf k := by
  rw [O₀_apply] at hp
  by_cases h1 : g = barCell (nxt c) ∧ u = ()
  · exact ⟨nxt c, .inl (), h1.1, Nat.one_pos⟩
  by_cases h2 : g = barCell (prv c) ∧ u = ()
  · exact ⟨prv c, .inl (), h2.1, Nat.one_pos⟩
  rw [if_neg h1, if_neg h2, Nat.add_zero] at hp
  obtain ⟨h, -, hg⟩ := owedHops_pos hp
  exact ⟨nxt c, .inr (.inr h), hg, Nat.succ_pos _⟩

omit [FloatOps F] in
/-- A device may wait on a semaphore at a level no higher than `b` while everything it owes is above `b`. -/
theorem mayWait (c : Dev nD) (sm : SemLoc sig) (O : CellTallies nD τ sig Unit) (b : ℕ) (hb : lv ((c : Thread nD τ), sm) () ≤ b)
    (hO : ∀ g u, 0 < O g u → ∃ d k, g = cellAt (d, k) ∧ b < levOf k) :
    (levAts L lv : sProp 𝕄) ⊢ MayWait (c : Thread nD τ) sm () O :=
  MayOwe.of_cut (L := L) (lev := lv) b
    (fun p hp => by rw [Finset.mem_singleton.mp hp]; exact Finset.mem_singleton_self _)
    (fun g u hg => by obtain ⟨d, k, rfl, -⟩ := hO g u hg; exact Finset.mem_singleton_self _)
    (fun p hp => by rw [Finset.mem_singleton.mp hp]; exact hb)
    (fun g u hg => by obtain ⟨d, k, rfl, h⟩ := hO g u hg; cases u; rw [lv_cell]; exact h)

omit [FloatOps F] in
/-- A cell below the receive cells of the hops from `j` on may be waited on while those are owed. -/
theorem mayWait_hops (c : Dev nD) (k : Cell) (j : ℕ) (hk : levOf k ≤ j + 1) :
    (levAts L lv : sProp 𝕄) ⊢ MayWait (c : Thread nD τ) (cellSem k) () (owedHops c j) :=
  mayWait c _ _ (j + 1) (le_of_eq_of_le (lv_cell c k) hk) fun g u hg => by
    obtain ⟨h, hj, rfl⟩ := owedHops_pos hg
    exact ⟨nxt c, .inr (.inr h), rfl, by show j + 1 < h.val + 2; omega⟩

end Cert.RingMatmul

end
-- ==== Proof.Hop.lean ====
/-
# One hop of the ring

From a device holding one full row block, the rights to its hop and its successor's room for the block, the hop ends with
the next row block full as well, the hop's two cells closed, and the rows of the next block in the result.
-/
module

public import proofs.«01_k».proof.Proof.Schedule

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## What the devices share, and what a hop needs and leaves -/

/-- Every cell's invariant, and that every cell has reached its round. -/
def know (K : Dev nD × Cell → ℕ) : sProp 𝕄 :=
  iprop((bigSep Finset.univ fun ck => cellInv ER (ringRd m ρ) (K ck) (cellAt ck)) ∗ bigSep Finset.univ fun ck => reached ER (cellAt ck) 0)

instance know_persistent (K : Dev nD × Cell → ℕ) : BI.Persistent (know (F := F) m ρ K) := by unfold know; infer_instance

theorem know_inv (K : Dev nD × Cell → ℕ) (ck : Dev nD × Cell) : know m ρ K ⊢ cellInv ER (ringRd (F := F) m ρ) (K ck) (cellAt ck) := by
  unfold know
  exact sep_elim_left.trans (bigSep_elim (Φ := fun ck => cellInv ER (ringRd (F := F) m ρ) (K ck) (cellAt ck)) (Finset.mem_univ ck))
theorem know_reached (K : Dev nD × Cell → ℕ) (ck : Dev nD × Cell) : know m ρ K ⊢ (reached ER (cellAt ck) 0 : sProp 𝕄) := by
  unfold know
  exact sep_elim_right.trans (bigSep_elim (Φ := fun ck => (reached ER (cellAt ck) 0 : sProp 𝕄)) (Finset.mem_univ ck))

/-- A device's keys to hop `h`: its positions at the hop's two cells and the tokens of the two duties it pays there; with the
    credit of the block it awaits. -/
def keys (c : Dev nD) (h : Fin 15) : sProp 𝕄 :=
  iprop(atPos ER (sendCell c h) 0 ∅ 0 ∗ atPos ER (recvCell c h) 0 ∅ 0
    ∗ dutyTok ER (sendCell c h) 0 false ∗ dutyTok ER (recvCell (nxt c) h) 0 false)
def rights (c : Dev nD) (h : Fin 15) : sProp 𝕄 := iprop(keys c h ∗ cred (tallyAt (recvCell c h) () N))

/-- What hop `h` needs, and what it leaves: its cells at zero and the block it sent. -/
def todo (c : Dev nD) (h : Fin 15) : sProp 𝕄 := iprop(rights c h ∗ room (nxt c) (back c h.val))
def done (c : Dev nD) (h : Fin 15) : sProp 𝕄 := iprop(semVal (sendCell c h) 0 ∗ semVal (recvCell c h) 0 ∗ full m ρ c (back c h.val))

/-- The widened columns of `w` in their buffer; the result buffer holding `f`. -/
def widePts (c : Dev nD) : sProp 𝕄 := (c : Thread nD τ).loc cc0_scratch1 ↦{fullShare} wide m ρ c
def outPts (c : Dev nD) (f : (cc0_stg4_0 : Ref sig .tc).ty.Contents (Elt F)) : sProp 𝕄 := (c : Thread nD τ).loc cc0_stg4_0 ↦{fullShare} f

/-- `f` with the rows of block `k` replaced by the result's. -/
def withRows (c k : Dev nD) (f : (cc0_stg4_0 : Ref sig .tc).ty.Contents (Elt F)) : (cc0_stg4_0 : Ref sig .tc).ty.Contents (Elt F) :=
  fun i => if blkO i = k then outAt m ρ c i else f i

/-- The weakest precondition on device `c`. -/
abbrev run (c : Dev nD) (e : P₀ (F := F) PUnit) (Q : PUnit → sProp 𝕄) : sProp 𝕄 :=
  wp frame (wpE (defs₀ (F := F)) 𝒱₀ (c : Thread nD τ) none) Set.univ e Q

theorem zero_offset : (![0, 0] : Fin 2 → Nat) = fun _ => 0 := funext fun a => by fin_cases a <;> rfl

/-! ## The multiplication of one row block -/

theorem run_rows (c k : Dev nD) {og : Fin 2 → ℕ} {hog : ∀ a, og a + S256x4096.size a ≤ S4096x4096.size a} {oo : Fin 2 → ℕ}
    {hoo : ∀ a, oo a + S256x128.size a ≤ S4096x128.size a} (hg : og = rowAt k) (ho : oo = rowAt k)
    (f : (cc0_stg4_0 : Ref sig .tc).ty.Contents (Elt F)) (e : P₀ (F := F) PUnit) (Q : PUnit → sProp 𝕄) :
    iprop(full m ρ c k ∗ widePts m ρ c ∗ outPts c f)
      ⊢ iprop(((full m ρ c k ∗ widePts m ρ c ∗ outPts c (withRows m ρ c k f)) -∗ run c e Q)
          -∗ run c (rows (scl m ρ c) og hog oo hoo e) Q) := by
  subst hg ho
  unfold full slot widePts outPts rows
  iintro ⟨Hg, Hh, Ho⟩ Hk
  iapply (wp_load 𝒱₀ (c : Thread nD τ) none Set.univ (m := gM) (r := (gRect (rowAt k) hog).toLoadRect) (View.set_slice _ _).ge) $$ Hg; iintro Hg
  iapply (wp_load 𝒱₀ (c : Thread nD τ) none Set.univ (m := hM) (Finset.subset_univ _)) $$ Hh; iintro Hh
  iapply (wp_load 𝒱₀ (c : Thread nD τ) none Set.univ (m := oM) (Finset.subset_univ _)) $$ Ho; iintro Ho
  iapply (wp_store 𝒱₀ (c : Thread nD τ) none Set.univ (m := oM) (r := oRect (rowAt k) hoo) (Mk := Finset.univ) (Finset.subset_univ _)) $$ Ho; iintro Ho
  iapply Hk
  isplitl [Hg]; · iexact Hg
  isplitl [Hh]; · iexact Hh
  have hv : (gM : Memref sig .tc .vmem S4096x4096 .fp8e5m2).view.readAt (Elt F) (gRect (rowAt k) hog).toLoadRect (gath m ρ) = xstg m ρ k := read_gath m ρ k
  have hw : (hM : Memref sig .tc .vmem S4096x128 .bf16).view.readAt (Elt F)
      (Rect.unit (s := S4096x128) ![0, 0] S4096x128.size inb_S4096x128_S4096x128_0_0).toLoadRect (wide m ρ c) = wide m ρ c :=
    Memref.readAt_unit_zero (Elt F) cc0_scratch1 zero_offset _ _
  rw [hv, hw, show withRows m ρ c k f = (oM.access (oRect (rowAt k) hoo)).write (Elt F) f (prod m ρ c k) Finset.univ from
    funext fun i => (write_out_at m ρ c k f i).symm]
  iexact Ho

/-! ## The waits -/

/-- The DMA semaphore of a transfer cell. -/
abbrev xferDma (k : Fin 15 ⊕ Fin 15) : DmaSem sig := Sum.elim sendS recvS k

/-- Waiting out a transfer cell hands over its payload and, the cell having no further round, its counter at zero. -/
theorem run_take (K : Dev nD × Cell → ℕ) (c : Dev nD) (k : Fin 15 ⊕ Fin 15) {q : DmaSem sig} (hq : SemLoc.dma q = cellSem (.inr k))
    (j : ℕ) (hj : levOf (.inr k) ≤ j + 1) (W : Waits sig Unit) (b : Dev nD)
    {hs : (slotM b).view.WordExact} {hd : (slotM b).view.WordExact}
    (e : PUnit → P₀ (F := F) PUnit) (Q : PUnit → sProp 𝕄) :
    iprop(know m ρ K ∗ levAts L lv ∗ cred (tallyAt (cellAt (c, .inr k)) () N) ∗ owes (c : Thread nD τ) (owedHops c j) W ∗ atPos ER (cellAt (c, .inr k)) 0 ∅ 0)
      ⊢ iprop(((∃ W, owes (c : Thread nD τ) (owedHops c j) W) ∗ semVal (cellAt (c, .inr k)) 0 ∗ handed m ρ c (.inr k) false -∗ run c (e ⟨⟩) Q)
          -∗ run c (.op (.waitDma2 q (slotM b) (slotM b) hs hd) e) Q) := by
  have hc : cellAt (c, .inr k) = ((c : Thread nD τ), SemLoc.dma q) := by rw [hq]
  have hx := expect_xfer (F := F) m ρ c k
  have hr := rest_xfer (F := F) m ρ c k
  have hm := mayWait_hops (F := F) c (.inr k) j hj
  have hi := know_inv m ρ K (c, .inr k)
  rw [hc] at hx hr hi ⊢
  rw [← hq] at hm
  iintro ⟨#HK, #Hlev, Hc, HO, Hat⟩ Hk
  ihave #HI := hi $$ HK
  iapply (Rounds.wp_wait_rest_token 𝒱₀ ER (ringRd m ρ) (c : Thread nD τ) none (κ := K (c, .inr k))
      (wpE_waitDma2_eq 𝒱₀ (c : Thread nD τ) none Set.univ (src := slotM b) (dst := slotM b) (hsrc := hs) (hdst := hd)) (Set.mem_univ _) () (O := owedHops c j) (W := W) (R := 0) (m := 0) (T := ∅)
      ((Nat.zero_add _).trans hx.symm)) $$ [Hc HO Hat]
  · isplitr; · iexact HI
    isplitl [Hc]; · iexact Hc
    isplitl [HO]; · iexact HO
    isplitr; · iapply hm; iexact Hlev
    iexact Hat
  iintro ⟨HO, Hat, -, Hpay⟩
  imod (Rounds.cell_close ER (ringRd m ρ) (Set.mem_univ (K (c, .inr k))) (fun h => h) (R := 0 + 1) (duties_later m ρ _)) $$ [Hat] with Hz
  · isplitr; · iexact HI
    iexact Hat
  iapply Hk
  isplitl [HO]; · iexists _; iexact HO
  isplitl [Hz]; · iexact Hz
  iapply (Entails.of_eq hr); iexact Hpay

/-! ## The hop -/

/-- The transfer of hop `h` to the successor: it pays the hop's send duty with the block sent and the successor's receive
    duty with the block landed. -/
theorem run_send (K : Dev nD × Cell → ℕ) (c : Dev nD) (h : Fin 15) (fn : (cc0_scratch0 : Ref sig .tc).ty.Contents (Elt F)) (W : Waits sig Unit)
    {hsc : (slotM (back c h.val) : Memref sig (Dev.tc (nxt c) : Thread nD τ).2.kind .vmem S256x4096 .fp8e5m2).view.ref.isScScratch = false}
    {hs hd : (slotM (back c h.val)).view.WordExact}
    {ht : DmaTarget.Typed .vmem (.dma (recvS h)) (.remote (Dev.tc (nxt c) : Thread nD τ) (slotM (back c h.val)) (.dma (sendS h)) hsc)}
    {e : PUnit → P₀ (F := F) PUnit} {Q : PUnit → sProp 𝕄} :
    iprop(cellInv ER (ringRd m ρ) (K (c, .inr (.inl h))) (sendCell c h) ∗ cellInv ER (ringRd m ρ) (K (nxt c, .inr (.inr h))) (recvCell (nxt c) h)
        ∗ full m ρ c (back c h.val) ∗ slot (nxt c) (back c h.val) fn ∗ owes (c : Thread nD τ) (owedHops c h.val) W
        ∗ dutyTok ER (sendCell c h) 0 false ∗ reached ER (sendCell c h) 0
        ∗ dutyTok ER (recvCell (nxt c) h) 0 false ∗ reached ER (recvCell (nxt c) h) 0)
      ⊢ iprop((cred (tallyAt (sendCell c h) () N) ∗ owes (c : Thread nD τ) (owedHops c (h.val + 1)) W -∗ run c (e ⟨⟩) Q)
          -∗ run c (.op (.enqueueDma (slotM (back c h.val)) (.remote (Dev.tc (nxt c) : Thread nD τ) (slotM (back c h.val)) (.dma (sendS h)) hsc)
              (.dma (recvS h)) hs hd ht) e) Q) := by
  unfold full slot
  exact Rounds.wp_send_pointsTo 𝒱₀ ER (ringRd m ρ) (c : Thread nD τ) none (κ₁ := K (c, .inr (.inl h))) (κ₂ := K (nxt c, .inr (.inr h)))
    (c' := (Dev.tc (nxt c) : Thread nD τ)) (src := slotM (back c h.val)) (dst := slotM (back c h.val)) (sS := .dma (sendS h)) (sem := .dma (recvS h))
    (q := fullShare) (r₁ := 0) (r₂ := 0) (d₁ := false) (d₂ := false) (fs := gath m ρ) (fd := fn)
    (by rw [show ((c : Thread nD τ), SemLoc.dma (sendS h)) = cellAt (c, .inr (.inl h)) from rfl, duties_cell]; exact Finset.mem_singleton_self _)
    (by rw [show ((Dev.tc (nxt c) : Thread nD τ), SemLoc.dma (recvS h)) = cellAt (nxt c, .inr (.inr h)) from rfl, duties_cell]; exact Finset.mem_singleton_self _)
    () () N rfl (amount_cell m ρ c (.inr (.inl h)) false) (amount_cell m ρ (nxt c) (.inr (.inr h)) false)
    (owedHops c (h.val + 1)) (owedHops_succ c h) (W := W)
    (Entails.of_eq ((show _ = full m ρ c (back c h.val) by unfold full slot; rfl).trans
      (((payload_cell m ρ c (.inr (.inl h)) false).trans (handed_send m ρ c h false)).symm)))
    (Entails.of_eq (by
      refine Eq.trans ?_ ((payload_cell m ρ (nxt c) (.inr (.inr h)) false).trans (handed_recv m ρ (nxt c) h false)).symm
      rw [back_nxt, read_gath]
      unfold full slot
      exact pointsTo_congr (write_gath m ρ (back c h.val) fn)))

theorem run_hop (K : Dev nD × Cell → ℕ) (c : Dev nD) (h : Fin 15) {n : Dev nD} (hn : n = nxt c)
    {ot : Fin 2 → ℕ} {hot : ∀ a, ot a + S256x4096.size a ≤ S4096x4096.size a} {hwt : (gRect ot hot).WholeWords (EltTy.packing .fp8e5m2)}
    {og : Fin 2 → ℕ} {hog : ∀ a, og a + S256x4096.size a ≤ S4096x4096.size a} {oo : Fin 2 → ℕ}
    {hoo : ∀ a, oo a + S256x128.size a ≤ S4096x128.size a}
    (ht : ot = rowAt (back c h.val)) (hg : og = rowAt (back c (h.val + 1))) (ho : oo = rowAt (back c (h.val + 1)))
    (f : (cc0_stg4_0 : Ref sig .tc).ty.Contents (Elt F)) (W : Waits sig Unit) (e : P₀ (F := F) PUnit) (Q : PUnit → sProp 𝕄) :
    iprop(know m ρ K ∗ levAts L lv ∗ full m ρ c (back c h.val) ∗ todo c h ∗ owes (c : Thread nD τ) (owedHops c h.val) W
        ∗ widePts m ρ c ∗ outPts c f)
      ⊢ iprop((full m ρ c (back c (h.val + 1)) ∗ done m ρ c h ∗ (∃ W, owes (c : Thread nD τ) (owedHops c (h.val + 1)) W)
            ∗ widePts m ρ c ∗ outPts c (withRows m ρ c (back c (h.val + 1)) f) -∗ run c e Q)
          -∗ run c (hop h n (scl m ρ c) ot hot hwt og hog oo hoo e) Q) := by
  subst hn ht
  unfold todo rights keys room hop
  iintro ⟨#HK, #Hlev, Hfull, ⟨⟨⟨HatS, HatR, HtS, HtR⟩, HcR⟩, ⟨%fn, Hroom⟩⟩, HO, Hh, Ho⟩ Hk
  iapply (run_send m ρ K c h fn W) $$ [Hfull Hroom HO HtS HtR]
  · isplitr; · iapply (know_inv m ρ K (c, .inr (.inl h))); iexact HK
    isplitr; · iapply (know_inv m ρ K (nxt c, .inr (.inr h))); iexact HK
    isplitl [Hfull]; · iexact Hfull
    isplitl [Hroom]; · iexact Hroom
    isplitl [HO]; · iexact HO
    isplitl [HtS]; · iexact HtS
    isplitr; · iapply (know_reached m ρ K (c, .inr (.inl h))); iexact HK
    isplitl [HtR]; · iexact HtR
    iapply (know_reached m ρ K (nxt c, .inr (.inr h))); iexact HK
  iintro ⟨HcS, HO⟩
  iapply (run_take m ρ K c (.inl h) rfl (h.val + 1) (Nat.zero_le _) W (back c h.val)) $$ [HcS HO HatS]
  · isplitr; · iexact HK
    isplitr; · iexact Hlev
    isplitl [HcS]; · iexact HcS
    isplitl [HO]; · iexact HO
    iexact HatS
  rw [handed_send]
  iintro ⟨⟨%W₁, HO⟩, HzS, Hback⟩
  iapply (run_take m ρ K c (.inr h) rfl (h.val + 1) (le_refl _) W₁ (back c h.val)) $$ [HcR HO HatR]
  · isplitr; · iexact HK
    isplitr; · iexact Hlev
    isplitl [HcR]; · iexact HcR
    isplitl [HO]; · iexact HO
    iexact HatR
  rw [handed_recv]
  iintro ⟨HO, HzR, Hnew⟩
  iapply (run_rows m ρ c (back c (h.val + 1)) hg ho f e Q) $$ [Hnew Hh Ho]
  · isplitl [Hnew]; · iexact Hnew
    isplitl [Hh] <;> iassumption
  iintro ⟨Hnew, Hh, Ho⟩
  iapply Hk
  isplitl [Hnew]; · iexact Hnew
  isplitl [HzS HzR Hback]
  · unfold done
    isplitl [HzS]; · iexact HzS
    isplitl [HzR]; · iexact HzR
    iexact Hback
  isplitl [HO]; · iexact HO
  isplitl [Hh] <;> iassumption

end Cert.RingMatmul

end
-- ==== Proof.Body.lean ====
/-
# The body of the kernel on one device

The opening, then the fifteen hops by induction on those left, each adding one row block to the gather buffer's full part
and its rows to the result; at the end the sixteen blocks are the whole buffer and the sixteen row blocks the whole result.
-/
module

public import proofs.«01_k».proof.Proof.Hop
public import Idealize.ShloMosaic.Lib.Ring
public import Idealize.ShloMosaic.Lib.SparseCore.Stream

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

/-! ## The gather buffer and its row blocks -/

omit [FloatOps F] in
/-- A family over the devices, counted back from `c`: `c` first, -/
theorem around_first (c : Dev nD) (Φ : Dev nD → sProp 𝕄) :
    bigSep Finset.univ Φ = iprop(Φ c ∗ bigSep Finset.univ fun h : Fin 15 => Φ (back c (h.val + 1))) := by
  rw [bigSep_univ_equiv (around c) Φ, bigSep_univ_succ]
  show iprop(Φ (back c 0) ∗ _) = _
  rw [back_zero]; rfl
omit [FloatOps F] in
/-- or the fifteenth back last. -/
theorem around_last (c : Dev nD) (Φ : Dev nD → sProp 𝕄) :
    bigSep Finset.univ Φ = iprop(Φ (back c 15) ∗ bigSep Finset.univ fun h : Fin 15 => Φ (back c h.val)) := by
  rw [bigSep_univ_equiv (around c) Φ, bigSep_univ_equiv Fin.revPerm, bigSep_univ_succ,
    bigSep_univ_equiv Fin.revPerm (fun h : Fin 15 => Φ (back c h.val))]
  refine congrArg₂ _ rfl (bigSep_congr fun h _ => congrArg Φ (congrArg (back c) ?_))
  show 16 - (h.val + 1 + 1) = 15 - (h.val + 1)
  omega

omit [FloatOps F] in
/-- The gather buffer is its sixteen row blocks. -/
theorem gather_blocks (c : Dev nD) (f : (cc0_scratch0 : Ref sig .tc).ty.Contents (Elt F)) :
    ((c : Thread nD τ).loc cc0_scratch0 ↦{fullShare} f : sProp 𝕄) = bigSep Finset.univ fun k => slot c k f := by
  unfold slot
  exact Ring.pointsTo_blocks (ℓ := (c : Thread nD τ).loc cc0_scratch0) slotSet slots_disjoint slots_cover f

/-! ## The hops -/

/-- `f` agrees with the result on the row blocks of the `j + 1` devices back from `c`. -/
def Filled (c : Dev nD) (j : ℕ) (f : (cc0_stg4_0 : Ref sig .tc).ty.Contents (Elt F)) : Prop :=
  ∀ i, ∀ j' ≤ j, blkO i = back c j' → f i = outAt m ρ c i

theorem Filled.step {c : Dev nD} {j : ℕ} {f : (cc0_stg4_0 : Ref sig .tc).ty.Contents (Elt F)} (hf : Filled m ρ c j f) :
    Filled m ρ c (j + 1) (withRows m ρ c (back c (j + 1)) f) := fun i j' hj' hi => by
  unfold withRows
  by_cases h : blkO i = back c (j + 1)
  · rw [if_pos h]
  · rw [if_neg h]
    rcases Nat.lt_or_eq_of_le hj' with hlt | rfl
    · exact hf i j' (Nat.lt_succ_iff.mp hlt) hi
    · exact absurd hi h

theorem Filled.start (c : Dev nD) (f : (cc0_stg4_0 : Ref sig .tc).ty.Contents (Elt F)) : Filled m ρ c 0 (withRows m ρ c c f) := fun i j' hj' hi => by
  obtain rfl : j' = 0 := Nat.le_zero.mp hj'
  rw [back_zero] at hi
  unfold withRows; rw [if_pos hi]

theorem Filled.all {c : Dev nD} {f : (cc0_stg4_0 : Ref sig .tc).ty.Contents (Elt F)} (hf : Filled m ρ c 15 f) : f = outAt m ρ c := funext fun i => by
  obtain ⟨j, hj⟩ := (back_bijective c).2 (blkO i)
  exact hf i j.val (Nat.lt_succ_iff.mp j.isLt) hj.symm

theorem run_hops (K : Dev nD × Cell → ℕ) (c : Dev nD) (Q : PUnit → sProp 𝕄) : ∀ r j : ℕ, r + j = 15 →
    ∀ f, Filled m ρ c j f →
    iprop(know m ρ K ∗ levAts L lv ∗ full m ρ c (back c j) ∗ bigSep (finFrom 15 j) (todo c) ∗ bigSep (finUpTo 15 j) (done m ρ c)
        ∗ (∃ W, owes (c : Thread nD τ) (owedHops c j) W) ∗ widePts m ρ c ∗ outPts c f)
      ⊢ iprop((full m ρ c (back c 15) ∗ bigSep Finset.univ (done m ρ c) ∗ (∃ W, owes (c : Thread nD τ) 0 W)
            ∗ widePts m ρ c ∗ outPts c (outAt m ρ c) -∗ Q ⟨⟩)
          -∗ run c (hopsLeft c (scl m ρ c) r) Q)
  | 0, j, hj, f, hf => by
    obtain rfl : j = 15 := by omega
    obtain rfl := hf.all
    unfold hopsLeft run
    rw [bigSep_finUpTo_self, owedHops_end, wp_ret]
    iintro ⟨-, -, Hfull, -, Hdone, HO, Hh, Ho⟩ Hk
    imodintro
    iapply Hk
    isplitl [Hfull]; · iexact Hfull
    isplitl [Hdone]; · iexact Hdone
    isplitl [HO]; · iexact HO
    isplitl [Hh] <;> iassumption
  | r + 1, j, hj, f, hf => by
    have hlt : j < 15 := by omega
    obtain rfl : 14 - r = j := by omega
    rw [bigSep_finFrom_succ hlt]
    iintro ⟨#HK, #Hlev, Hfull, ⟨Hnow, Hlater⟩, Hdone, ⟨%W, HO⟩, Hh, Ho⟩ Hk
    unfold hopsLeft hopAt
    iapply (run_hop m ρ K c ⟨14 - r, hlt⟩ (dest_eq c _) (off3_eq c _) (off4_eq c _) (off5_eq c _) f W (hopsLeft c (scl m ρ c) r) Q) $$ [Hfull Hnow HO Hh Ho]
    · isplitr; · iexact HK
      isplitr; · iexact Hlev
      isplitl [Hfull]; · iexact Hfull
      isplitl [Hnow]; · iexact Hnow
      isplitl [HO]; · iexact HO
      isplitl [Hh] <;> iassumption
    iintro ⟨Hfull, Hjust, HO, Hh, Ho⟩
    iapply (run_hops K c Q r (14 - r + 1) (by omega) _ hf.step) $$ [Hfull Hlater Hdone Hjust HO Hh Ho]
    · isplitr; · iexact HK
      isplitr; · iexact Hlev
      isplitl [Hfull]; · iexact Hfull
      isplitl [Hlater]; · iexact Hlater
      isplitl [Hdone Hjust]
      · rw [bigSep_finUpTo_succ hlt]
        isplitl [Hjust] <;> iassumption
      isplitl [HO]; · iexact HO
      isplitl [Hh] <;> iassumption
    iexact Hk

/-! ## The opening -/

/-- A staged buffer's contents. -/
abbrev pts (c : Dev nD) (b : Ref sig .tc) (X : b.ty.Contents (Elt F)) : sProp 𝕄 := (c : Thread nD τ).loc b ↦{fullShare} X

/-- The four staged inputs. -/
def inputs (c : Dev nD) : sProp 𝕄 :=
  iprop(pts c cc0_stg0_0 (xstg m ρ c) ∗ pts c cc0_stg1_0 (wstg m ρ c) ∗ pts c cc0_stg2_0 (astg m ρ c) ∗ pts c cc0_stg3_0 (bstg m ρ c))

/-- A device's rights at the barrier: its position at its own barrier cell, the tokens of the two units it pays, the credit
    of the two it awaits. -/
def gate (c : Dev nD) : sProp 𝕄 :=
  iprop(atPos ER (barCell c) 0 ∅ 0 ∗ dutyTok ER (barCell (nxt c)) 0 false ∗ dutyTok ER (barCell (prv c)) 0 true)

omit [FloatOps F] in
/-- The row blocks behind a device's own are the ones its predecessor's transfers overwrite. -/
theorem rooms_intro (c : Dev nD) (g : (cc0_scratch0 : Ref sig .tc).ty.Contents (Elt F)) :
    (bigSep Finset.univ fun h : Fin 15 => slot c (back c (h.val + 1)) g : sProp 𝕄) ⊢ rooms (prv c) := by
  have h1 (h : Fin 15) : (slot c (back c (h.val + 1)) g : sProp 𝕄) ⊢ room (F := F) (nxt (prv c)) (back (prv c) h.val) := by
    rw [nxt_prv, back_prv]
    unfold room
    iintro H
    iexists g; iexact H
  unfold rooms
  exact bigSep_mono fun h _ => h1 h

/-- The handshake: the predecessor gets the fifteen row blocks its transfers overwrite, the own block stays, and the
    successor's fifteen come in. -/
theorem run_handshake (K : Dev nD × Cell → ℕ) (c : Dev nD) {n p : Dev nD} (hn : n = nxt c) (hp : p = prv c)
    (g : (cc0_scratch0 : Ref sig .tc).ty.Contents (Elt F)) (W : Waits sig Unit) (e : P₀ (F := F) PUnit) (Q : PUnit → sProp 𝕄) :
    iprop(know m ρ K ∗ levAts L lv ∗ gate c ∗ cred (tallyAt (barCell c) () 2) ∗ owes (c : Thread nD τ) (O₀ c) W ∗ pts c cc0_scratch0 g)
      ⊢ iprop((slot c c g ∗ rooms c ∗ semVal (barCell c) 0 ∗ (∃ W, owes (c : Thread nD τ) (owedHops c 0) W) -∗ run c e Q)
          -∗ run c (.op (.semSignal (Dev.tc p) barS (1#32).toInt) fun _ => .op (.semSignal (Dev.tc n) barS (1#32).toInt) fun _ =>
              .op (.semWait barS (2#32).toInt) fun _ => e) Q) := by
  subst hn hp
  unfold pts gate
  rw [gather_blocks, around_first c]
  iintro ⟨#HK, #Hlev, ⟨Hat, HtN, HtP⟩, Hc, HO, ⟨Hown, Hrest⟩⟩ Hk
  iapply (Rounds.wp_signal 𝒱₀ ER (ringRd m ρ) (c : Thread nD τ) none (dst := (prv c : Thread nD τ)) (κ := K (prv c, .inl ()))
      (d := true) (by rw [show ((prv c : Thread nD τ), SemLoc.reg barS) = cellAt (prv c, .inl ()) from rfl, duties_cell]; exact Finset.mem_univ _)
      ((amount_cell m ρ (prv c) (.inl ()) true).trans (by decide)) () (O₁ c) rfl) $$ [HO HtP Hrest]
  · isplitr; · iapply (know_inv m ρ K (prv c, .inl ())); iexact HK
    isplitl [HO]; · iexact HO
    isplitl [HtP]; · iexact HtP
    isplitl [Hrest]
    · rw [show ((prv c : Thread nD τ), SemLoc.reg barS) = cellAt (prv c, .inl ()) from rfl, payload_cell, show handed m ρ (prv c) (.inl ()) true = rooms (prv c) from rfl]
      iapply (rooms_intro c g); iexact Hrest
    · iapply (know_reached m ρ K (prv c, .inl ())); iexact HK
  iintro HO
  unfold O₁
  iapply (Rounds.wp_signal 𝒱₀ ER (ringRd m ρ) (c : Thread nD τ) none (dst := (nxt c : Thread nD τ)) (κ := K (nxt c, .inl ()))
      (d := false) (by rw [show ((nxt c : Thread nD τ), SemLoc.reg barS) = cellAt (nxt c, .inl ()) from rfl, duties_cell]; exact Finset.mem_univ _)
      ((amount_cell m ρ (nxt c) (.inl ()) false).trans (by decide)) () (owedHops c 0) rfl) $$ [HO HtN]
  · isplitr; · iapply (know_inv m ρ K (nxt c, .inl ())); iexact HK
    isplitl [HO]; · iexact HO
    isplitl [HtN]; · iexact HtN
    isplitr
    · rw [show ((nxt c : Thread nD τ), SemLoc.reg barS) = cellAt (nxt c, .inl ()) from rfl, payload_cell, show handed m ρ (nxt c) (.inl ()) false = iprop(emp) from rfl]
      iempintro
    · iapply (know_reached m ρ K (nxt c, .inl ())); iexact HK
  iintro HO
  iapply (Rounds.wp_wait_rest_token 𝒱₀ ER (ringRd m ρ) (c : Thread nD τ) none (κ := K (c, .inl ()))
      (wpE_semWait_eq 𝒱₀ (c : Thread nD τ) none Set.univ) (Set.mem_univ _) () (O := owedHops c 0) (W := W) (R := 0) (m := 0) (T := ∅)
      (by rw [expect_bar]; decide)) $$ [Hc HO Hat]
  · isplitr; · iapply (know_inv m ρ K (c, .inl ())); iexact HK
    isplitl [Hc]; · iexact Hc
    isplitl [HO]; · iexact HO
    isplitr; · iapply (mayWait_hops c (.inl ()) 0 (le_refl _)); iexact Hlev
    iexact Hat
  iintro ⟨HO, Hat, -, Hpay⟩
  imod (Rounds.cell_close ER (ringRd m ρ) (Set.mem_univ (K (c, .inl ()))) (fun h => h) (R := 0 + 1) (duties_later m ρ (barCell c))) $$ [Hat] with Hz
  · isplitr; · iapply (know_inv m ρ K (c, .inl ())); iexact HK
    iexact Hat
  ihave Hp := (Entails.of_eq (rest_bar m ρ c)) $$ Hpay
  icases Hp with ⟨-, Hrooms⟩
  iapply Hk
  isplitl [Hown]; · iexact Hown
  isplitl [Hrooms]; · iexact Hrooms
  isplitl [Hz]; · iexact Hz
  iexists _; iexact HO

/-- The own rows staged in the gather buffer. -/
theorem run_stage (c : Dev nD) {o : Fin 2 → ℕ} {ho : ∀ a, o a + S256x4096.size a ≤ S4096x4096.size a} (h : o = rowAt c)
    {hl : (gM : Memref sig .tc .vmem S4096x4096 .fp8e5m2).view.LoadsAt (gRect o ho).toLoadRect} {hx : (gM.access (gRect o ho)).Stores Finset.univ}
    {hm : (Finset.univ : Finset (gRect o ho).shape.Idx) = Finset.univ ∨ ∀ a, (gRect o ho).stride a = 1}
    (g : (cc0_scratch0 : Ref sig .tc).ty.Contents (Elt F)) (e : P₀ (F := F) PUnit) (Q : PUnit → sProp 𝕄) :
    slot c c g ⊢ iprop((full m ρ c c -∗ run c e Q)
      -∗ run c (.op (.load gM (gRect o ho).toLoadRect hl) fun _ => .op (.store gM (gRect o ho) (k0_pay3 (xstg m ρ c)) Finset.univ hx hm) fun _ => e) Q) := by
  subst h
  unfold full slot
  iintro Hg Hk
  iapply (wp_load 𝒱₀ (c : Thread nD τ) none Set.univ (m := gM) (r := (gRect (rowAt c) ho).toLoadRect) (View.set_slice _ _).ge) $$ Hg; iintro Hg
  iapply (wp_store 𝒱₀ (c : Thread nD τ) none Set.univ (m := gM) (r := gRect (rowAt c) ho) (Mk := Finset.univ) (S := slotSet c) (View.setOn_univ _).le) $$ Hg; iintro Hg
  iapply Hk
  rw [pay3_eq]
  iapply (Entails.of_eq (pointsTo_congr (write_gath m ρ c g))); iexact Hg

theorem first_index (x : S1.Idx) : x = ix1 0 := funext fun a => by
  fin_cases a; exact Fin.ext (Nat.lt_one_iff.mp (x 0).isLt)

theorem run_opening (K : Dev nD × Cell → ℕ) (c : Dev nD) (g : (cc0_scratch0 : Ref sig .tc).ty.Contents (Elt F))
    (w₀ : (cc0_scratch1 : Ref sig .tc).ty.Contents (Elt F)) (f : (cc0_stg4_0 : Ref sig .tc).ty.Contents (Elt F)) (W : Waits sig Unit)
    (k : F .f32 → P₀ (F := F) PUnit) (Q : PUnit → sProp 𝕄) :
    iprop(know m ρ K ∗ levAts L lv ∗ gate c ∗ cred (tallyAt (barCell c) () 2) ∗ owes (c : Thread nD τ) (O₀ c) W
        ∗ pts c cc0_scratch0 g ∗ pts c cc0_scratch1 w₀ ∗ inputs m ρ c ∗ outPts c f)
      ⊢ iprop((full m ρ c c ∗ rooms c ∗ semVal (barCell c) 0 ∗ (∃ W, owes (c : Thread nD τ) (owedHops c 0) W)
            ∗ widePts m ρ c ∗ inputs m ρ c ∗ outPts c (withRows m ρ c c f) -∗ run c (k (scl m ρ c)) Q)
          -∗ run c (opening c k) Q) := by
  unfold opening inputs pts
  simp only [smemLoad, smemLoadElt, Prog.bind_op, Prog.bind_ret]
  iintro ⟨#HK, #Hlev, Hgate, Hc, HO, Hg, Hw, ⟨Hx, Hws, Ha, Hb⟩, Ho⟩ Hk
  iapply (run_handshake m ρ K c (dev2_eq c) (dev1_eq c) g W _ Q) $$ [Hgate Hc HO Hg]
  · isplitr; · iexact HK
    isplitr; · iexact Hlev
    isplitl [Hgate]; · iexact Hgate
    isplitl [Hc]; · iexact Hc
    isplitl [HO] <;> iassumption
  iintro ⟨Hown, Hrooms, Hz, HO⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := wM) (Finset.subset_univ _)) $$ Hws; iintro Hws
  iapply (wp_load 𝒱₀ (c : Thread nD τ) none Set.univ (m := hM) (Finset.subset_univ _)) $$ Hw; iintro Hw
  iapply (wp_store 𝒱₀ (c : Thread nD τ) none Set.univ (m := hM)
    (r := Rect.unit (s := S4096x128) ![0, 0] S4096x128.size inb_S4096x128_S4096x128_0_0) (Mk := Finset.univ) (Finset.subset_univ _)) $$ Hw; iintro Hw
  iapply (wp_load 𝒱₀ (c : Thread nD τ) none Set.univ (m := xM) (Finset.subset_univ _)) $$ Hx; iintro Hx
  have ea : ∀ x, (aM : Memref sig .tc .smem S1 .f32).view.readAt (Elt F) (Rect.unit (s := S1) ![0] S1.size inb_S1_S1_0).toLoadRect (astg m ρ c) x
      = astg m ρ c (ix1 0) := fun x => congrArg (astg m ρ c) (first_index _)
  have eb : ∀ x, (bM : Memref sig .tc .smem S1 .f32).view.readAt (Elt F) (Rect.unit (s := S1) ![0] S1.size inb_S1_S1_0).toLoadRect (bstg m ρ c) x
      = bstg m ρ c (ix1 0) := fun x => congrArg (bstg m ρ c) (first_index _)
  have ew : (wM : Memref sig .tc .vmem S4096x128 .fp8e5m2).view.readAt (Elt F)
      (Rect.unit (s := S4096x128) ![0, 0] S4096x128.size inb_S4096x128_S4096x128_0_0).toLoadRect (wstg m ρ c) = wstg m ρ c :=
    Memref.readAt_unit_zero (Elt F) cc0_stg1_0 zero_offset _ _
  have ex : (xM : Memref sig .tc .vmem S256x4096 .fp8e5m2).view.readAt (Elt F)
      (Rect.unit (s := S256x4096) ![0, 0] S256x4096.size inb_S256x4096_S256x4096_0_0).toLoadRect (xstg m ρ c) = xstg m ρ c :=
    Memref.readAt_unit_zero (Elt F) cc0_stg0_0 zero_offset _ _
  have eh : ∀ w, (hM.access (Rect.unit (s := S4096x128) ![0, 0] S4096x128.size inb_S4096x128_S4096x128_0_0) : View sig .tc _ _ _).write (Elt F) w₀ w Finset.univ = w :=
    Memref.write_access_unit_zero_univ (Elt F) cc0_scratch1 zero_offset _ w₀
  rw [ew, ex, eh, ea, eb]
  have hw : ((c : Thread nD τ).loc cc0_scratch1 ↦{fullShare} k0_pay2 (wstg m ρ c) : sProp 𝕄) ⊢ widePts m ρ c := by unfold widePts wide; exact BI.Entails.refl _
  ihave Hw := hw $$ Hw
  iapply (run_stage m ρ c (off1_eq c) g _ Q) $$ Hown; iintro Hfull
  iapply (run_rows m ρ c c (off1_eq c) (off2_eq c) f (k (scl m ρ c)) Q) $$ [Hfull Hw Ho]
  · isplitl [Hfull]; · iexact Hfull
    isplitl [Hw]; · iexact Hw
    iexact Ho
  iintro ⟨Hfull, Hw, Ho⟩
  iapply Hk
  isplitl [Hfull]; · iexact Hfull
  isplitl [Hrooms]; · iexact Hrooms
  isplitl [Hz]; · iexact Hz
  isplitl [HO]; · iexact HO
  isplitl [Hw]; · iexact Hw
  isplitl [Hx Hws Ha Hb]
  · isplitl [Hx]; · iexact Hx
    isplitl [Hws]; · iexact Hws
    isplitl [Ha] <;> iassumption
  iexact Ho

/-! ## The body -/

/-- What a device starts from besides its buffers: the shared facts at some names, its rights at the barrier and its keys to
    the hops, the credits, and the levels. -/
def start (c : Dev nD) : sProp 𝕄 :=
  iprop((∃ K, know m ρ K ∗ gate c ∗ bigSep Finset.univ (keys c))
    ∗ (cred (tallyAt (barCell c) () 2) ∗ bigSep Finset.univ fun h => cred (tallyAt (recvCell c h) () N)) ∗ levAts L lv)

/-- The ring's semaphores of device `c` at zero. -/
def zeros (c : Dev nD) : sProp 𝕄 :=
  iprop(semVal (barCell c) 0 ∗ (bigSep Finset.univ fun h => semVal (sendCell c h) 0) ∗ bigSep Finset.univ fun h => semVal (recvCell c h) 0)

/-- The body takes the staged inputs and the buffers at any contents to the result, the gather buffer full and every
    semaphore of the ring at zero. -/
theorem run_body (c : Dev nD) (g : (cc0_scratch0 : Ref sig .tc).ty.Contents (Elt F)) (w₀ : (cc0_scratch1 : Ref sig .tc).ty.Contents (Elt F))
    (f : (cc0_stg4_0 : Ref sig .tc).ty.Contents (Elt F)) (W : Waits sig Unit) (Q : PUnit → sProp 𝕄) :
    iprop(start m ρ c ∗ owes (c : Thread nD τ) (O₀ c) W ∗ pts c cc0_scratch0 g ∗ pts c cc0_scratch1 w₀ ∗ inputs m ρ c ∗ outPts c f)
      ⊢ iprop(((∃ W, owes (c : Thread nD τ) 0 W) ∗ zeros c ∗ pts c cc0_scratch0 (gath m ρ) ∗ widePts m ρ c ∗ inputs m ρ c ∗ outPts c (outAt m ρ c) -∗ Q ⟨⟩)
          -∗ run c (cc0_body (F := F) xM (Memref.isWhole_whole _) wM (Memref.isWhole_whole _) aM (Memref.isWhole_whole _)
            bM (Memref.isWhole_whole _) oM (Memref.isWhole_whole _) gM (Memref.isWhole_whole _) hM (Memref.isWhole_whole _) cc0_scratch2 cc0_scratch3) Q) := by
  rw [body_shape]
  unfold run start
  rw [wp_deviceId]
  iintro ⟨⟨⟨%K, #HK, Hgate, Hkeys⟩, ⟨HcB, HcR⟩, #Hlev⟩, HO, Hg, Hw, Hin, Ho⟩ Hk
  iapply (run_opening m ρ K c g w₀ f W (fun v => hopsLeft c v 15) Q) $$ [Hgate HcB HO Hg Hw Hin Ho]
  · isplitr; · iexact HK
    isplitr; · iexact Hlev
    isplitl [Hgate]; · iexact Hgate
    isplitl [HcB]; · iexact HcB
    isplitl [HO]; · iexact HO
    isplitl [Hg]; · iexact Hg
    isplitl [Hw]; · iexact Hw
    isplitl [Hin] <;> iassumption
  iintro ⟨Hfull, Hrooms, Hz, HO, Hw, Hin, Ho⟩
  have htodo : iprop((bigSep Finset.univ (keys c) ∗ bigSep Finset.univ fun h => cred (tallyAt (recvCell c h) () N)) ∗ rooms c)
      ⊢ (bigSep (finFrom 15 0) (todo c) : sProp 𝕄) := by
    rw [bigSep_finFrom_zero]
    unfold todo rights rooms
    rw [bigSep_sep', bigSep_sep']
  iapply (run_hops m ρ K c Q 15 0 rfl _ (Filled.start m ρ c f)) $$ [Hfull Hrooms Hkeys HcR HO Hw Ho]
  · isplitr; · iexact HK
    isplitr; · iexact Hlev
    isplitl [Hfull]; · rw [back_zero]; iexact Hfull
    isplitl [Hrooms Hkeys HcR]
    · iapply htodo
      isplitl [Hkeys HcR]
      · isplitl [Hkeys] <;> iassumption
      iexact Hrooms
    isplitr; · rw [bigSep_finUpTo_zero]; iempintro
    isplitl [HO]; · iexact HO
    isplitl [Hw] <;> iassumption
  iintro ⟨Hlast, Hdone, HO, Hw, Ho⟩
  have hdone : iprop(full m ρ c (back c 15) ∗ bigSep Finset.univ (done m ρ c))
      ⊢ (iprop((bigSep Finset.univ fun h => semVal (sendCell c h) 0) ∗ (bigSep Finset.univ fun h => semVal (recvCell c h) 0) ∗ pts c cc0_scratch0 (gath m ρ)) : sProp 𝕄) := by
    unfold pts
    rw [gather_blocks, around_last c]
    unfold done full
    rw [bigSep_sep', bigSep_sep']
    iintro ⟨H1, H2, H3, H4⟩
    isplitl [H2]; · iexact H2
    isplitl [H3]; · iexact H3
    isplitl [H1] <;> iassumption
  ihave H := hdone $$ [Hlast Hdone]
  · isplitl [Hlast] <;> iassumption
  icases H with ⟨HzS, HzR, Hg⟩
  iapply Hk
  isplitl [HO]; · iexact HO
  isplitl [Hz HzS HzR]
  · unfold zeros
    isplitl [Hz]; · iexact Hz
    isplitl [HzS] <;> iassumption
  isplitl [Hg]; · iexact Hg
  isplitl [Hw]; · iexact Hw
  isplitl [Hin] <;> iassumption

end Cert.RingMatmul

end
-- ==== Proof.Launch.lean ====
/-
# The launch

The pipeline stages each device's inputs, the body runs, the result is copied out. Here the ring's ghost state is minted
and dealt around the devices, the credits are counted, and the run of the whole program follows: from any memory with zero
counters it terminates, with the result array at the computed contents and every counter at zero.
-/
module

public import proofs.«01_k».proof.Proof.Body
public import proofs.«01_k».proof.Proof.Gen.KernelIdeal.Points
public import Idealize.ShloMosaic.Lib.Quiescent
public import Idealize.ShloMosaic.Lib.Pipeline.CollectiveSegs

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body owns besides the staged windows, before and after. -/
def Φ₀ (c : Dev nD) : sProp 𝕄 := iprop(start m ρ c ∗ (∃ g, pts c cc0_scratch0 g) ∗ ∃ w, pts c cc0_scratch1 w)
def Φ₁ (c : Dev nD) : sProp 𝕄 := iprop(zeros c ∗ pts c cc0_scratch0 (gath m ρ) ∗ widePts m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ pts c b f) := by
  unfold owns; simp only [Memref.view_whole, View.read_whole, View.set_whole]

/-- A staged buffer holding `X`, as the pipeline states it. -/
abbrev staged (c : Dev nD) (b : Ref sig .tc) (X : b.ty.Contents (Elt F)) : sProp 𝕄 := iprop(∃ f, ⌜f = X⌝ ∗ pts c b f)

def bodyPre (c : Dev nD) : sProp 𝕄 :=
  iprop(Φ₀ m ρ c ∗ (dats m ρ 0 c).owesAt () t₀.castSucc
    ∗ (∃ d, staged c cc0_stg0_0 ((dats m ρ 0 c).before (0 : Fin 5) t₀ d))
    ∗ (∃ d, staged c cc0_stg1_0 ((dats m ρ 0 c).before (1 : Fin 5) t₀ d))
    ∗ (∃ d, staged c cc0_stg2_0 ((dats m ρ 0 c).before (2 : Fin 5) t₀ d))
    ∗ (∃ d, staged c cc0_stg3_0 ((dats m ρ 0 c).before (3 : Fin 5) t₀ d))
    ∗ (∃ d, staged c cc0_stg4_0 ((dats m ρ 0 c).before (4 : Fin 5) t₀ d)))
def bodyPost (c : Dev nD) : sProp 𝕄 :=
  iprop(Φ₁ m ρ c ∗ (dats m ρ 0 c).owesAt () t₀.succ
    ∗ staged c cc0_stg0_0 (xstg m ρ c) ∗ staged c cc0_stg1_0 (wstg m ρ c) ∗ staged c cc0_stg2_0 (astg m ρ c)
    ∗ staged c cc0_stg3_0 (bstg m ρ c) ∗ staged c cc0_stg4_0 (outAt m ρ c))

/-- What a fetched window's staging buffer holds. -/
theorem before_0 (c : Dev nD) (d) : (dats m ρ 0 c).before (0 : Fin 5) t₀ d = xstg m ρ c := by
  unfold Dat.before; rw [if_pos (fetch0_0 t₀)]; rfl
theorem before_1 (c : Dev nD) (d) : (dats m ρ 0 c).before (1 : Fin 5) t₀ d = wstg m ρ c := by
  unfold Dat.before; rw [if_pos (fetch0_1 t₀)]; rfl
theorem before_2 (c : Dev nD) (d) : (dats m ρ 0 c).before (2 : Fin 5) t₀ d = astg m ρ c := by
  unfold Dat.before; rw [if_pos (fetch0_2 t₀)]; rfl
theorem before_3 (c : Dev nD) (d) : (dats m ρ 0 c).before (3 : Fin 5) t₀ d = bstg m ρ c := by
  unfold Dat.before; rw [if_pos (fetch0_3 t₀)]; rfl

set_option maxRecDepth 4000 in
/-- The body, from the staged windows as the pipeline states them. -/
theorem body_staged (c : Dev nD) : bodyPre m ρ c ⊢ run c (cc0_body (F := F) xM (Memref.isWhole_whole _) wM (Memref.isWhole_whole _) aM (Memref.isWhole_whole _)
      bM (Memref.isWhole_whole _) oM (Memref.isWhole_whole _) gM (Memref.isWhole_whole _) hM (Memref.isWhole_whole _) cc0_scratch2 cc0_scratch3)
    (fun _ => bodyPost m ρ c) := by
  unfold bodyPre Φ₀ Dat.owesAt Pipeline.owesWithin
  simp only [before_0, before_1, before_2, before_3]
  rw [show (dats m ρ 0 c).owed t₀.castSucc = O₀ c from rfl]
  iintro ⟨⟨Hs, ⟨%g, Hg⟩, ⟨%w, Hw⟩⟩, ⟨%W, %hW, HO⟩, ⟨%d0, %g0, %hg0, Hx⟩, ⟨%d1, %g1, %hg1, Hws⟩, ⟨%d2, %g2, %hg2, Ha⟩, ⟨%d3, %g3, %hg3, Hb⟩, ⟨%d4, %f, %hg4, Ho⟩⟩
  subst hg0 hg1 hg2 hg3
  iapply (run_body m ρ c g w f W (fun _ => bodyPost m ρ c)) $$ [Hs HO Hg Hw Hx Hws Ha Hb Ho]
  · isplitl [Hs]; · iexact Hs
    isplitl [HO]; · iexact HO
    isplitl [Hg]; · iexact Hg
    isplitl [Hw]; · iexact Hw
    isplitl [Hx Hws Ha Hb]
    · unfold inputs
      isplitl [Hx]; · iexact Hx
      isplitl [Hws]; · iexact Hws
      isplitl [Ha] <;> iassumption
    unfold outPts; iexact Ho
  unfold bodyPost Φ₁ inputs outPts Dat.owesAt Pipeline.owesWithin
  rw [show (dats m ρ 0 c).owed t₀.succ = 0 from rfl]
  iintro ⟨⟨%W', HO⟩, Hz, Hg, Hw, ⟨Hx, Hws, Ha, Hb⟩, Ho⟩
  isplitl [Hz Hg Hw]
  · isplitl [Hz]; · iexact Hz
    isplitl [Hg] <;> iassumption
  isplitl [HO]
  · iexists W'
    isplitr; · ipureintro; exact fun _ _ => Or.inl trivial
    iexact HO
  isplitl [Hx]
  · iexists _; isplitr; · (ipureintro; rfl)
    iexact Hx
  isplitl [Hws]
  · iexists _; isplitr; · (ipureintro; rfl)
    iexact Hws
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 16000 in
theorem body_obligation (c : Dev nD) : BodyObligation (dats (F := F) m ρ 0 c) (defs₀ (F := F)) 𝒱₀ () Set.univ := fun t => by
  rw [fin_N t]
  rw [bigSep_W0, bigSep_W0]
  simp only [owns_whole]
  show bodyPre m ρ c ⊢ run c (cc0_body (F := F) xM (Memref.isWhole_whole _) wM (Memref.isWhole_whole _) aM (Memref.isWhole_whole _)
      bM (Memref.isWhole_whole _) oM (Memref.isWhole_whole _) gM (Memref.isWhole_whole _) hM (Memref.isWhole_whole _) cc0_scratch2 cc0_scratch3)
    (fun _ => bodyPost m ρ c)
  exact body_staged m ρ c

/-! ## Minting the ring's ghost state -/

theorem stage_role (w : Fin cfg0.W) (s : Fin (cfg0.spec w).nbuf) : roleOf (.dma ((cfg0.spec w).sem s)) = none := by
  fin_cases w <;> fin_cases s <;> decide
theorem ownSemFacts : Pipeline.OwnSemFacts cfg0.spec xferSem where
  isScoped k := by rcases k with h | h <;> (revert h; decide)
  inj a b e := Sum.inr.inj (cellSem_injective (a₁ := .inr a) (a₂ := .inr b) e)
  disj k w s e := by
    have h := role_cell (.inr k)
    rw [show cellSem (.inr k) = .dma ((cfg0.spec w).sem s) from e, stage_role] at h
    cases h

theorem share_eq (c : Dev nD) (w : Fin cfg0.W) : (dats m ρ 0 c).share w = fullShare := by unfold Dat.share; split <;> rfl

theorem cellAt_injective : Function.Injective cellAt := by
  rintro ⟨c, k⟩ ⟨c', k'⟩ h
  have h1 : c = c' := congrArg (fun g : GSem nD τ sig => g.1.1) h
  have h2 : k = k' := cellSem_injective (congrArg Prod.snd h)
  rw [h1, h2]
def ringCells : Finset (GSem nD τ sig) := Finset.univ.map ⟨cellAt, cellAt_injective⟩

/-- A device's own cells' duties: the two of its barrier cell, the one of each transfer cell. -/
abbrev Duty : Type := Bool ⊕ (Fin 15 ⊕ Fin 15)
abbrev tokOf (cj : Dev nD × Duty) : GSem nD τ sig × ℕ × Bool := match cj.2 with
  | .inl d => (cellAt (cj.1, .inl ()), 0, d)
  | .inr k => (cellAt (cj.1, .inr k), 0, false)
theorem tokOf_injective : Function.Injective tokOf := by
  rintro ⟨c, j⟩ ⟨c', j'⟩ h
  rcases j with d | k <;> rcases j' with d' | k'
  · have h1 := cellAt_injective (congrArg Prod.fst h)
    have h2 : d = d' := congrArg (fun x : GSem nD τ sig × ℕ × Bool => x.2.2) h
    exact Prod.ext (Prod.mk.inj h1).1 (congrArg Sum.inl h2)
  · have h1 := cellAt_injective (congrArg Prod.fst h)
    exact absurd (Prod.mk.inj h1).2 (by simp)
  · have h1 := cellAt_injective (congrArg Prod.fst h)
    exact absurd (Prod.mk.inj h1).2 (by simp)
  · have h1 := cellAt_injective (congrArg Prod.fst h)
    exact congrArg₂ Prod.mk (Prod.mk.inj h1).1 (congrArg Sum.inr (Sum.inr.inj (Prod.mk.inj h1).2))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun h => dutyTok ER (sendCell c h) 0 false) ∗ bigSep Finset.univ fun h => dutyTok ER (recvCell c h) 0 false)

/-- What the launch element deals device `c`; and what the step over all devices makes of it. -/
def G (c : Dev nD) : sProp 𝕄 :=
  iprop((bigSep Finset.univ fun k : Cell => roundState ER (ringRd m ρ) (cellAt (c, k)) 0)
    ∗ (bigSep Finset.univ fun k : Cell => iprop(atPos ER (cellAt (c, k)) 0 ∅ 0 ∗ reached ER (cellAt (c, k)) 0)) ∗ toks c)
def G' (c : Dev nD) : sProp 𝕄 := iprop(∃ K, know m ρ K ∗ gate c ∗ bigSep Finset.univ (keys c))

omit [FloatOps F] in
/-- A family over a device's cells: its barrier cell's, its send cells', its receive cells'. -/
theorem over_cells (Φ : Cell → sProp 𝕄) : bigSep Finset.univ Φ
    = iprop(Φ (.inl ()) ∗ (bigSep Finset.univ fun h => Φ (.inr (.inl h))) ∗ bigSep Finset.univ fun h => Φ (.inr (.inr h))) := by
  rw [bigSep_univ_sum, bigSep_univ_sum, bigSep_univ_of_subsingleton ()]; rfl

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum, bigSep_univ_eq_bigSepL [false, true] (by decide) (by decide), bigSepL_cons_cons, bigSepL_singleton]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) xferSem c : sProp 𝕄)
    = iprop((bigSep Finset.univ fun h => semVal (sendCell c h) 0) ∗ bigSep Finset.univ fun h => semVal (recvCell c h) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The invariants of device `c`'s cells, from their counters at zero. -/
theorem core_alloc (c : Dev nD) :
    iprop(Pipeline.ownSems0 (Ix := Unit) (Name := ℕ) (U := UU) (Lvl := ℕ) (Val := Elt F) (τ := τ) xferSem c ∗ unscopedSems0 c ∗ G m ρ c)
      ⊢ |={Set.univ}=> iprop((bigSep Finset.univ fun k => iprop(∃ κ : ℕ, cellInv ER (ringRd m ρ) κ (cellAt (c, k))))
          ∗ (bigSep Finset.univ fun k => iprop(atPos ER (cellAt (c, k)) 0 ∅ 0 ∗ reached ER (cellAt (c, k)) 0)) ∗ toks c) := by
  unfold G
  rw [ownSems0_eq, unscopedSems0_eq]
  iintro ⟨⟨HS, HV⟩, HB, Hst, Hat, Htok⟩
  imod (show iprop((semVal (barCell c) 0 ∗ (bigSep Finset.univ fun h => semVal (sendCell c h) 0) ∗ bigSep Finset.univ fun h => semVal (recvCell c h) 0)
        ∗ bigSep Finset.univ fun k : Cell => roundState ER (ringRd m ρ) (cellAt (c, k)) 0)
      ⊢ (|={Set.univ}=> bigSep Finset.univ fun k => iprop(∃ κ : ℕ, cellInv ER (ringRd m ρ) κ (cellAt (c, k))) : sProp 𝕄) from by
        rw [← over_cells fun k => semVal (cellAt (c, k)) 0, ← bigSep_sep']
        exact (bigSep_mono fun k _ => (Rounds.body_intro ER (ringRd m ρ) (cellAt (c, k))).trans inv_alloc).trans (bigSep_fupd _ _)) $$ [HB HS HV Hst] with Hinv
  · isplitl [HB HS HV]
    · isplitl [HB]; · iexact HB
      isplitl [HS] <;> iassumption
    iexact Hst
  imodintro
  isplitl [Hinv]; · iexact Hinv
  isplitl [Hat] <;> iassumption

/-! ## Dealing it around the ring -/

/-- The tokens of the duties device `c` pays. -/
def paid (c : Dev nD) : sProp 𝕄 :=
  iprop((dutyTok ER (barCell (nxt c)) 0 false ∗ dutyTok ER (barCell (prv c)) 0 true)
    ∗ (bigSep Finset.univ fun h => dutyTok ER (sendCell c h) 0 false) ∗ bigSep Finset.univ fun h => dutyTok ER (recvCell (nxt c) h) 0 false)

omit [FloatOps F] in
/-- The tokens dealt around: each device gets those of the duties it pays — its own send cells', its successor's receive
    cells', and one unit of each neighbour's barrier cell. -/
theorem toks_around : (bigSep Finset.univ fun c : Dev nD => (toks c : sProp 𝕄))
    ⊢ bigSep Finset.univ fun c : Dev nD => paid c := by
  unfold toks paid
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h => dutyTok ER (recvCell c h) 0 false : sProp 𝕄))]
  exact BI.Entails.refl _

omit [FloatOps F] in
/-- A device's positions and tokens are its rights at the barrier and its keys to the hops. -/
theorem deal (K : Dev nD × Cell → ℕ) (c : Dev nD) :
    iprop(know m ρ K ∗ (bigSep Finset.univ fun k : Cell => atPos ER (cellAt (c, k)) 0 ∅ 0)
      ∗ paid c) ⊢ G' m ρ c := by
  rw [over_cells]
  unfold G' gate keys paid
  simp only [bigSep_sep']
  iintro ⟨HK, ⟨HB, HS, HR⟩, ⟨H1, H2⟩, H3, H4⟩
  iexists K
  isplitl [HK]; · iexact HK
  isplitl [HB H1 H2]
  · isplitl [HB]; · iexact HB
    isplitl [H1] <;> iassumption
  isplitl [HS]; · iexact HS
  isplitl [HR]; · iexact HR
  isplitl [H3] <;> iassumption

omit [FloatOps F] in
theorem regroup :
    (bigSep Finset.univ fun c : Dev nD => iprop((bigSep Finset.univ fun k => iprop(∃ κ : ℕ, cellInv ER (ringRd m ρ) κ (cellAt (c, k))))
          ∗ (bigSep Finset.univ fun k => iprop(atPos ER (cellAt (c, k)) 0 ∅ 0 ∗ reached ER (cellAt (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (ringRd m ρ) κ (cellAt ck))),
    bigSep_congr (s := Finset.univ) (fun (c : Dev nD) _ => bigSep_sep' Finset.univ (fun k : Cell => (atPos ER (cellAt (c, k)) 0 ∅ 0 : sProp 𝕄)) (fun k => reached ER (cellAt (c, k)) 0)),
    bigSep_sep', ← bigSep_univ_prod (fun ck : Dev nD × Cell => (reached ER (cellAt ck) 0 : sProp 𝕄))]
  iintro ⟨HI, ⟨Hat, #HR⟩, Htok⟩
  ihave HK := (BI.bigSep_exists_pi Finset.univ (fun (ck : Dev nD × Cell) (κ : ℕ) => (cellInv ER (ringRd m ρ) κ (cellAt ck) : sProp 𝕄))) $$ HI
  icases HK with ⟨%K, #HI⟩
  ihave Htk := (toks_around (F := F)) $$ Htok
  iapply (show iprop(know m ρ K ∗ bigSep Finset.univ fun c : Dev nD => iprop((bigSep Finset.univ fun k : Cell => atPos ER (cellAt (c, k)) 0 ∅ 0) ∗ paid c))
      ⊢ (bigSep Finset.univ (G' m ρ) : sProp 𝕄) from
        (sep_mono_left (BI.bigSep_of_persistent Finset.univ (know m ρ K))).trans (by rw [← bigSep_sep']; exact bigSep_mono fun c _ => deal m ρ K c))
  isplitr
  · unfold know; isplitl; · iexact HI
    iexact HR
  · iapply (Entails.of_eq (bigSep_sep' Finset.univ (fun c : Dev nD => (bigSep Finset.univ fun k : Cell => atPos ER (cellAt (c, k)) 0 ∅ 0 : sProp 𝕄)) paid).symm)
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) xferSem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_inj {a b : Dev nD} (h : barCell a = barCell b) : a = b := congrArg (fun g : GSem nD τ sig => g.1.1) h
theorem recv_inj {a b : Dev nD} {h h' : Fin 15} (e : recvCell a h = recvCell b h') : a = b ∧ h = h' := by
  have := cellAt_injective (a₁ := (a, .inr (.inr h))) (a₂ := (b, .inr (.inr h'))) e
  exact ⟨(Prod.mk.inj this).1, Sum.inr.inj (Sum.inr.inj (Prod.mk.inj this).2)⟩
theorem recv_ne_bar (a b : Dev nD) (h : Fin 15) : recvCell a h ≠ barCell b := fun e => by cases congrArg Prod.snd e

/-- A device owes its neighbours' barrier cells one unit each; -/
theorem owed_bar (d c : Dev nD) : O₀ d (barCell c) () = (if d = prv c then 1 else 0) + (if d = nxt c then 1 else 0) := by
  have h0 : owedHops d 0 (barCell c) () = 0 := by
    by_contra hne
    obtain ⟨h, -, e⟩ := owedHops_pos (Nat.pos_of_ne_zero hne)
    exact recv_ne_bar _ _ _ e.symm
  have h1 : (barCell c = barCell (nxt d) ∧ () = ()) ↔ d = prv c :=
    ⟨fun h => by rw [bar_inj h.1, prv_nxt], fun h => by subst h; rw [nxt_prv]; exact ⟨rfl, rfl⟩⟩
  have h2 : (barCell c = barCell (prv d) ∧ () = ()) ↔ d = nxt c :=
    ⟨fun h => by rw [bar_inj h.1, nxt_prv], fun h => by subst h; rw [prv_nxt]; exact ⟨rfl, rfl⟩⟩
  rw [O₀_apply, h0, Nat.zero_add, if_congr h1 rfl rfl, if_congr h2 rfl rfl]

/-- and every receive cell of its successor one block. -/
theorem owed_recv (d c : Dev nD) (h : Fin 15) : O₀ d (recvCell c h) () = if d = prv c then N else 0 := by
  rw [O₀_apply, if_neg fun e => recv_ne_bar _ _ _ e.1, if_neg fun e => recv_ne_bar _ _ _ e.1, Nat.add_zero]
  unfold owedHops
  rw [Finset.sum_apply, Finsupp.finsetSum_apply, finFrom_zero]
  have hterm (h' : Fin 15) : tallyAt (recvCell (nxt d) h') () N (recvCell c h) () = if h' = h then (if d = prv c then N else 0) else 0 := by
    rw [tallyAt_apply]
    by_cases e : recvCell c h = recvCell (nxt d) h' ∧ () = ()
    · obtain ⟨rfl, rfl⟩ := recv_inj e.1
      rw [if_pos e, if_pos rfl, prv_nxt, if_pos rfl]
    · rw [if_neg e]
      by_cases e1 : h' = h
      · rw [if_pos e1]
        by_cases e2 : d = prv c
        · subst e1 e2; rw [nxt_prv] at e; exact absurd ⟨rfl, rfl⟩ e
        · rw [if_neg e2]
      · rw [if_neg e1]
  rw [Finset.sum_congr rfl fun h' _ => hterm h', Finset.sum_ite_eq' Finset.univ h, if_pos (Finset.mem_univ _)]

theorem launch_tally (g : GSem nD τ sig) (n : ℕ) (hn : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, hn]

omit [FloatOps F] in
/-- So the launch credits each barrier cell with two units and each receive cell with one block. -/
theorem creds (c : Dev nD) :
    (Pipeline.launchCred O₀ c : sProp 𝕄) ⊢ iprop(cred (tallyAt (barCell c) () 2) ∗ bigSep Finset.univ fun h => cred (tallyAt (recvCell c h) () N)) := by
  unfold Pipeline.launchCred
  rw [bigSep_univ_at _ (SemLoc.reg barS), launch_tally (barCell c) 2 (by
    rw [Finset.sum_congr rfl fun d _ => owed_bar d c, Finset.sum_add_distrib, Finset.sum_ite_eq' Finset.univ (prv c) fun _ => 1,
      Finset.sum_ite_eq' Finset.univ (nxt c) fun _ => 1, if_pos (Finset.mem_univ _), if_pos (Finset.mem_univ _)])]
  refine sep_mono_right ?_
  have hi : Function.Injective fun h : Fin 15 => (SemLoc.dma (recvS h) : SemLoc sig) := fun a b e => by
    have := cellSem_injective (a₁ := .inr (.inr a)) (a₂ := .inr (.inr b)) e
    exact Sum.inr.inj (Sum.inr.inj this)
  refine (bigSep_subset (t := Finset.univ.map ⟨_, hi⟩) fun sm hsm => ?_).trans ?_
  · obtain ⟨h, -, rfl⟩ := Finset.mem_map.mp hsm
    exact Finset.mem_erase.mpr ⟨(fun e => by cases e), Finset.mem_univ _⟩
  · rw [bigSep_map]
    refine Entails.of_eq (bigSep_congr fun h _ => congrArg cred (launch_tally (recvCell c h) N ?_))
    rw [Finset.sum_congr rfl fun d _ => owed_recv d c h, Finset.sum_ite_eq' Finset.univ (prv c) fun _ => N, if_pos (Finset.mem_univ _)]

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ pts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 xferSem c ∗ Pipeline.scopedRest cfg0.spec c) := by
  rw [show (dats m ρ 0 c).Φ (Fin.last cfg0.N) = Φ₁ m ρ c from rfl, scopedRest0_eq, ownSems0_eq, unscopedSems0_eq]
  unfold Φ₁ zeros pts widePts
  iintro ⟨⟨HzB, Hz⟩, Hg, Hw⟩
  isplitl [HzB]; · iexact HzB
  isplitl [Hz]; · iexact Hz
  isplitl [Hg]
  · iexists (gath m ρ); iexact Hg
  · iexists (wide m ρ c); iexact Hw

omit [FloatOps F] in
/-- The pipeline's own waits are below everything owed. -/
theorem mayWait_stage (c : Dev nD) (q : DmaSem sig) (hq : roleOf (.dma q) = none) (O : CellTallies nD τ sig Unit) (hO : O = O₀ c ∨ O = 0) :
    (levAts L lv : sProp 𝕄) ⊢ MayWait (c : Thread nD τ) (.dma q) () O := by
  rcases hO with rfl | rfl
  · refine mayWait c _ _ 0 ?_ fun g u hg => O₀_pos hg
    show (roleOf (.dma q)).elim 0 levOf ≤ 0
    rw [hq]; exact le_refl _
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds after the run. -/
def finalA (c : Dev nD) (w : Fin cfg0.W) : Buf (Elt F) ((cfg0.win w).arr.view.loc (c : Thread nD τ)) := (dats m ρ 0 c).arrAt w cfg0.N

def Finals : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, the program on sixteen devices terminates under every weakly
    fair schedule, with every window's array at its final contents and every counter at zero. -/
theorem run_main : θ_run defs (onTc (τ := τ) (main (F := F))) (s₀ m ρ) (fun r => Finals m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four argument arrays hold what they held. -/
theorem final_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.RingMatmul

end
-- ==== Proof.Frames.lean ====
/-
# Arguments kept, counters at zero

The run of the ring program, read at its four arguments.
-/
module

public import proofs.«01_k».proof.Defs
public import proofs.«01_k».proof.Proof.Launch
public import proofs.«01_k».proof.Proof.Gen.Kernel.Launch
public import proofs.«01_k».proof.Proof.Gen.ReferenceIdeal.Frame

@[expose] public section

noncomputable section

namespace Cert.RingMatmul

open Idealize.ShloMosaic
open Idealize.ShloMosaic.TcCoe
open Idealize.SL.Sem

section Kept
open Cert.KernelIdeal

variable {F : FTy → Type} [FloatOps F]
variable (m : (ℓ : Loc nD τ sig) → Buf (Elt F) ℓ) (ρ : Dev nD → PrngReg)

/-- After the run every device's four argument arrays are as launched. -/
theorem kept (r : PUnit × MemSt nD τ sig (Elt F)) (h : Finals m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans (final_in m ρ c (0 : Fin 5) rfl), (h c (1 : Fin 5)).trans (final_in m ρ c (1 : Fin 5) rfl),
    (h c (2 : Fin 5)).trans (final_in m ρ c (2 : Fin 5) rfl), (h c (3 : Fin 5)).trans (final_in m ρ c (3 : Fin 5) rfl)⟩

variable (F) in
/-- From any memory with zero counters the ring program terminates, every argument kept and every counter at zero. -/
def Framed : Prop := ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

/-- It does, for any float values. -/
theorem framed : Framed F := fun m ρ _ => (θ_run defs _ _).mono (fun r h => ⟨kept m ρ r h.1, h.2⟩) (run_main m ρ)

end Kept

/-- The kernel's text is the ideal program's, so its frame is the same statement, over the machine's floats. -/
theorem kernel_text : Cert.quiescent_Kernel (hKernel := Cert.Kernel.Gen.facts) = Framed Bits := by sl_kernel_rfl

/-- The frame of the kernel over the machine's floats. -/
theorem frame_kernel : Cert.quiescent_Kernel (hKernel := Cert.Kernel.Gen.facts) := kernel_text.mpr framed

/-- The frame of the kernel over the extended reals. -/
theorem frame_kernelIdeal : Cert.quiescent_KernelIdeal (hKernelIdeal := Cert.KernelIdeal.Gen.facts) := fun m ρ _ =>
  framed (F := Ideal) m ρ trivial

/-- The frame of the reference. -/
theorem frame_reference : Cert.quiescent_ReferenceIdeal (hReferenceIdeal := Cert.ReferenceIdeal.Gen.facts) := fun m ρ _ =>
  Cert.ReferenceIdeal.Gen.frame m ρ

end Cert.RingMatmul

end
-- ==== Proof.Staging.lean ====
/-
# Staging a whole array

In a kernel without a grid, a window's one block is its whole array.
-/
module

public import Idealize.ShloMosaic.Lib.Pipeline.ValueKit

@[expose] public section

namespace Cert.RingMatmul

open Idealize.ShloMosaic

/-- Reading an array through its window's block reads the array. -/
theorem read_staged {sig : RefSig} {s : Shape} {e : EltTy} {cs : CoreSpace} {Val : EltTy → Type} (arr : Memref sig .tc .hbm s e) (isOut sync : Bool)
    (stage : Memref sig .tc (.core cs) ⟨s.rank, s.size⟩ e) (sem : DmaSem sig) (harr : arr.IsWhole) (hstage : stage.IsWhole) (t : Fin Pipeline.Grid.none.N)
    (f : arr.view.ref.ty.Contents Val) :
    ((Pipeline.Window.whole arr isOut sync stage sem harr hstage).blk t).view.read Val f = arr.view.read Val f := by
  have h : ∀ i : s.Idx, ((Pipeline.Window.whole arr isOut sync stage sem harr hstage).rect t).emb i = i := fun i => by
    funext a
    refine Fin.ext ?_
    show 0 * s.size a + 1 * (i a).val = (i a).val
    omega
  funext i
  show arr.view.read Val f (((Pipeline.Window.whole arr isOut sync stage sem harr hstage).rect t).emb i) = _
  exact congrArg _ (h i)

end Cert.RingMatmul

end
-- ==== Proof.KernelResult.lean ====
/-
# The kernel's result array

The arguments are staged whole and the result is written back once, whole.
-/
module

public import proofs.«01_k».proof.Proof.Launch
public import proofs.«01_k».proof.Proof.Staging

@[expose] public section

noncomputable section

namespace Cert.RingMatmul

open Cert.KernelIdeal
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What is staged of each argument is the argument. -/
theorem xstg_eq (c : Dev nD) : xstg m ρ c = m ((c : Thread nD τ).loc main_arg0) := read_staged _ _ _ _ _ _ _ _ _
theorem wstg_eq (c : Dev nD) : wstg m ρ c = m ((c : Thread nD τ).loc main_arg1) := read_staged _ _ _ _ _ _ _ _ _
theorem astg_eq (c : Dev nD) : astg m ρ c = m ((c : Thread nD τ).loc main_arg2) := read_staged _ _ _ _ _ _ _ _ _
theorem bstg_eq (c : Dev nD) : bstg m ρ c = m ((c : Thread nD τ).loc main_arg3) := read_staged _ _ _ _ _ _ _ _ _

/-- The result array of device `c` holds its product. -/
theorem final_out (c : Dev nD) : finalA m ρ c (4 : Fin 5) = outAt m ρ c := by
  unfold finalA
  refine (dats m ρ 0 c).arrAt_eq_of_after_last (4 : Fin 5) t₀ (by decide +kernel) _ fun j => ?_
  rfl

end Cert.RingMatmul

end
-- ==== Proof.ReferenceResult.lean ====
/-
# The reference's result array

One product of the whole arguments, written back once.
-/
module

public import proofs.«01_k».proof.Proof.Gen.ReferenceIdeal.Value
public import proofs.«01_k».proof.Proof.Staging
public import Idealize.ShloMosaic.Lib.Pipeline.ReadBack
public import Idealize.ShloMosaic.Lib.Pointwise.Index

@[expose] public section

noncomputable section

namespace Cert.RingMatmul

open Cert.ReferenceIdeal Cert.ReferenceIdeal.Gen
open Idealize.ShloMosaic
open Idealize.ShloMosaic.TcCoe
open Idealize.SL.Sem

variable {F : FTy → Type} [FloatOps F]
variable (m : (ℓ : Loc nD τ sig) → Buf (Elt F) ℓ)

/-- The one point of the launch. -/
abbrev r₀ : Fin cfg0.N := ⟨0, by decide⟩

/-- What is staged of each argument is the argument. -/
theorem iblk0_eq (c : Dev nD) : iblk m c (0 : Fin 5) r₀ = m ((c : Thread nD τ).loc main_arg0) :=
  read_staged (Memref.whole main_arg0) false false (stage0_0 0) (sem0_0 0) (Memref.isWhole_whole _) (Facts₀.hstage0_0 0) r₀ _
theorem iblk1_eq (c : Dev nD) : iblk m c (1 : Fin 5) r₀ = m ((c : Thread nD τ).loc main_arg1) :=
  read_staged (Memref.whole main_arg1) false false (stage0_1 0) (sem0_1 0) (Memref.isWhole_whole _) (Facts₀.hstage0_1 0) r₀ _
theorem iblk2_eq (c : Dev nD) : iblk m c (2 : Fin 5) r₀ = m ((c : Thread nD τ).loc main_arg2) :=
  read_staged (Memref.whole main_arg2) false false (stage0_2 0) (sem0_2 0) (Memref.isWhole_whole _) (Facts₀.hstage0_2 0) r₀ _
theorem iblk3_eq (c : Dev nD) : iblk m c (3 : Fin 5) r₀ = m ((c : Thread nD τ).loc main_arg3) :=
  read_staged (Memref.whole main_arg3) false false (stage0_3 0) (sem0_3 0) (Memref.isWhole_whole _) (Facts₀.hstage0_3 0) r₀ _

/-- The scaled product of the arguments: what the reference's result array holds after its run. -/
def whole (c : Dev nD) : Vec F S4096x2048 .f32 :=
  k0_pay1 (m ((c : Thread nD τ).loc main_arg0)) (m ((c : Thread nD τ).loc main_arg1)) (m ((c : Thread nD τ).loc main_arg2) (ix1 0))
    (m ((c : Thread nD τ).loc main_arg3) (ix1 0))

/-- The one index of a scale. -/
theorem first_eq (h : 0 < S1.numel) : Shape.Idx.first h = (ix1 0 : S1.Idx) := by
  funext a; fin_cases a; rfl

/-- The result array holds it. -/
theorem final_ref (c : Dev nD) : (dats m 0 c).arrAt (4 : Fin 5) cfg0.N = whole m c := by
  refine (dats m 0 c).arrAt_eq_of_after_last (4 : Fin 5) r₀ (by decide +kernel) _ fun j => ?_
  blk_simp
  rw [after0_4]
  unfold outsAt0
  frame_out
  simp only [read_unread_whole, whole]
  rw [iblk0_eq, iblk1_eq, iblk2_eq, iblk3_eq]
  simp only [first_eq]

end Cert.RingMatmul

end
-- ==== Proof.Product.lean ====
/-
# A scaled product

Rows times columns, times two scales, over the extended reals: what a block of the kernel and the whole reference compute.
-/
module

public import proofs.«01_k».proof.Proof.Blocks
public import proofs.«01_k».proof.Proof.Gen.ReferenceIdeal.Value
public import Idealize.ShloMosaic.Lib.MatmulPlain

@[expose] public section

noncomputable section

namespace Cert.RingMatmul

open Idealize.ShloMosaic
open Idealize.ShloMosaic.TcCoe

/-- Entry `(r, l)` of `A · B`, scaled by `a · b`. -/
def entry {M K N : ℕ} (A : (⟨2, ![M, K]⟩ : Shape).Idx → EReal) (B : (⟨2, ![K, N]⟩ : Shape).Idx → EReal) (a b : EReal) (r : Fin M) (l : Fin N) : EReal :=
  (∑ k : Fin K, A (ix2 r k) * B (ix2 k l)) * (a * b)

/-- Zero, as the products' accumulators spell it. -/
theorem zero_acc {s : Shape} (i : s.Idx) : (constant (F := Ideal) s .f32 0x00000000#32) i = 0 := by
  show FloatOps.ofBits (F := Ideal) .f32 0x00000000#32 = 0
  simp

/-- A matrix product into zero, scaled, entry by entry. -/
theorem product_entry {M K N : ℕ} {φ₁ φ₂ : FTy} (A : FVec Ideal ⟨2, ![M, K]⟩ φ₁) (B : FVec Ideal ⟨2, ![K, N]⟩ φ₂) (a b : EReal) (r : Fin M) (l : Fin N) :
    (FloatOps.matmul (DotDims.plain M K N) none A B (constant (F := Ideal) ⟨2, ![M, N]⟩ .f32 0x00000000#32) (ix2 r l) : EReal) * (a * b) = entry A B a b r l :=
  congrArg (· * (a * b)) ((Ideal.matmul_plain_apply none A B _ r l).trans
    ((congrArg (· + _) (zero_acc (ix2 r l))).trans (zero_add _)))

/-- One row block of the kernel's result: the product of the rows gathered from one device and this device's columns. -/
theorem block_entry (a b : EReal) (X : Vec Ideal Cert.KernelIdeal.S256x4096 .fp8e5m2) (W : Vec Ideal Cert.KernelIdeal.S4096x128 .fp8e5m2) (r : Fin 256) (l : Fin 128) :
    Cert.KernelIdeal.Gen.k0_pay4 (F := Ideal) (Cert.KernelIdeal.Gen.k0_pay1 (F := Ideal) a b) X (Cert.KernelIdeal.Gen.k0_pay2 (F := Ideal) W) (ix2 r l)
      = entry X W a b r l := by
  have hw : Cert.KernelIdeal.Gen.k0_pay2 (F := Ideal) W = W := by
    show shapeCast _ (shapeCast _ W _) _ = W
    rw [shapeCast_self, shapeCast_self]
  rw [hw]
  exact product_entry X W a b r l

/-- The reference's result: the product of the whole arrays. -/
theorem whole_entry (a b : EReal) (X : Vec Ideal Cert.ReferenceIdeal.S4096x4096 .fp8e5m2) (W : Vec Ideal Cert.ReferenceIdeal.S4096x2048 .fp8e5m2) (r : Fin 4096) (l : Fin 2048) :
    Cert.ReferenceIdeal.Gen.k0_pay1 (F := Ideal) X W a b (ix2 r l) = entry X W a b r l :=
  product_entry X W a b r l

end Cert.RingMatmul

end
-- ==== Proof.Equation.lean ====
/-
# The kernel's columns of the product

Device `c` holds row block `c` of `x` and column block `c` of `w`. What it computes is column block `c` of the scaled
product of the whole arrays.
-/
module

public import proofs.«01_k».proof.Proof.KernelResult
public import proofs.«01_k».proof.Proof.ReferenceResult
public import proofs.«01_k».proof.Proof.Product
public import Idealize.ShloMosaic.Lib.Layout

@[expose] public section

noncomputable section

namespace Cert.RingMatmul

open Idealize.ShloMosaic
open Idealize.ShloMosaic.TcCoe
open Idealize.SL.Sem

/-- Row `r` of the whole `x` is row `r % 256` of block `r / 256`. -/
theorem row_of_block (X : Cert.ReferenceIdeal.S4096x4096.Idx → EReal) (i : Cert.KernelIdeal.S4096x128.Idx) (k : Fin 4096) :
    Layout.block ⟨2, ![256, 4096]⟩ ⟨2, ![4096, 4096]⟩ 0 16 (blkO i) X (by decide) (ix2 (inO i 0) k) = X (ix2 (i 0) k) := by
  refine congrArg X ?_
  funext a
  refine Fin.ext ?_
  fin_cases a
  · show (i 0).val / 256 * 256 + (i 0).val % 256 = (i 0).val
    omega
  · rfl

/-- Device `c`'s columns of the product of whole arrays, from its columns of `w` and every device's rows of `x`. -/
theorem columns_eq (X : Cert.ReferenceIdeal.S4096x4096.Idx → EReal) (W : Cert.ReferenceIdeal.S4096x2048.Idx → EReal) (a b : EReal) (c : Dev Cert.KernelIdeal.nD)
    (i : Cert.KernelIdeal.S4096x128.Idx) :
    entry (M := 256) (K := 4096) (N := 128) (Layout.block ⟨2, ![256, 4096]⟩ ⟨2, ![4096, 4096]⟩ 0 16 (blkO i) X)
        (Layout.block ⟨2, ![4096, 128]⟩ ⟨2, ![4096, 2048]⟩ 1 16 c W) a b (inO i 0) (i 1)
      = Layout.block ⟨2, ![4096, 128]⟩ ⟨2, ![4096, 2048]⟩ 1 16 c (Cert.ReferenceIdeal.Gen.k0_pay1 (F := Ideal) X W a b) (by decide) i := by
  have hT : Layout.Tiles ⟨2, ![4096, 128]⟩ ⟨2, ![4096, 2048]⟩ 1 16 := by decide
  have hi : hT.idx c i = ix2 (i 0) ⟨c.val * 128 + (i 1).val, (hT.idx c i 1).isLt⟩ := by
    funext a
    fin_cases a <;> rfl
  rw [Layout.block_apply, hi]
  refine Eq.trans ?_ (whole_entry a b X W _ _).symm
  unfold entry
  refine congrArg (· * (a * b)) (Finset.sum_congr rfl fun k _ => ?_)
  rw [row_of_block]
  refine congrArg (X (ix2 (i 0) k) * ·) (congrArg W ?_)
  funext j
  fin_cases j <;> rfl

open Cert.KernelIdeal in
/-- If the devices' arguments are the blocks of the whole arrays, device `c`'s result is block `c` of the reference's. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hx : ∀ c : Dev nD, m ((c.tc : Thread nD τ).loc main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0)))
    (c : Dev nD)
    (hw : m ((c.tc : Thread nD τ).loc main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1)))
    (ha : m ((c.tc : Thread nD τ).loc main_arg2) = m' (((0 : Dev Cert.ReferenceIdeal.nD).tc : Thread Cert.ReferenceIdeal.nD Cert.ReferenceIdeal.τ).loc Cert.ReferenceIdeal.main_arg2))
    (hb : m ((c.tc : Thread nD τ).loc main_arg3) = m' (((0 : Dev Cert.ReferenceIdeal.nD).tc : Thread Cert.ReferenceIdeal.nD Cert.ReferenceIdeal.τ).loc Cert.ReferenceIdeal.main_arg3)) :
    outAt m ρ c = Layout.block ⟨2, ![4096, 128]⟩ ⟨2, ![4096, 2048]⟩ 1 16 c (whole m' 0) := by
  funext i
  unfold outAt prod scl wide whole
  rw [xstg_eq, wstg_eq, astg_eq, bstg_eq, hx, hw, ha, hb]
  exact (block_entry _ _ _ _ (inO i 0) (i 1)).trans (columns_eq _ _ _ _ c i)

end Cert.RingMatmul

end
-- ==== Proof.Algebraic.lean ====
/-
# The two programs agree

The kernel's result on device `c` is column block `c` of the reference's result.
-/
module

public import proofs.«01_k».proof.Proof.Frames
public import proofs.«01_k».proof.Proof.Equation

@[expose] public section

noncomputable section

namespace Cert.RingMatmul

open Idealize.ShloMosaic
open Idealize.ShloMosaic.TcCoe
open Idealize.SL.Sem

/-- Over the extended reals, on sixteen devices holding the blocks of the reference's arguments, every device's result
    ends at its columns of the reference's, and all arguments are kept. -/
theorem agree : Cert.algebraic_KernelIdeal_ReferenceIdeal (hKernelIdeal := Cert.KernelIdeal.Gen.facts) (hReferenceIdeal := Cert.ReferenceIdeal.Gen.facts) :=
  fun m ρ m' ρ' _ h => ⟨whole m' 0,
    (θ_run Cert.KernelIdeal.defs _ _).mono (fun r hr c =>
      ⟨((hr.1 c (4 : Fin 5)).trans (final_out m ρ c)).trans (result_eq m ρ m' (fun d => (h d).1) c (h c).2.1 (h c).2.2.1 (h c).2.2.2), kept m ρ r hr.1 c⟩)
      (run_main m ρ),
    (θ_run Cert.ReferenceIdeal.defs _ _).mono (fun r hr => ⟨(hr 0).1.trans (final_ref m' 0), (hr 0).2⟩) (Cert.ReferenceIdeal.Value.run_blocks m' ρ')⟩

end Cert.RingMatmul

end
-- ==== Proof.lean ====
/-
# An all-gather over a ring of sixteen devices, fused with the product that consumes it: the claim

The frames of the kernel, of its ideal program and of the reference; that nothing was rewritten; and that every device
ends with its columns of the reference's result.
-/
module

public import proofs.«01_k».proof.Defs
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Value

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.RingMatmul.frame_kernel, Cert.RingMatmul.frame_kernelIdeal, Cert.RingMatmul.frame_reference, trivial, Cert.RingMatmul.agree⟩

end Cert.Proof

end
